-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 16384, 2048]⟩ ⟨3, ![2, 16384, 2048]⟩ (Layout.meshBlock [2, 2, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x2048 : Shape := ⟨3, ![1, 16384, 2048]⟩
abbrev S16384x1024 : Shape := ⟨2, ![16384, 1024]⟩
abbrev S8x256x1024 : Shape := ⟨3, ![8, 256, 1024]⟩
abbrev S2048x1024 : Shape := ⟨2, ![2048, 1024]⟩
abbrev S8 : Shape := ⟨1, ![8]⟩
abbrev S_ : Shape := ⟨0, ![]⟩
abbrev S4x8 : Shape := ⟨2, ![4, 8]⟩
abbrev S1 : Shape := ⟨1, ![1]⟩
abbrev S1x256x1024 : Shape := ⟨3, ![1, 256, 1024]⟩
abbrev S256x1024 : Shape := ⟨2, ![256, 1024]⟩
abbrev S1x2048x1024 : Shape := ⟨3, ![1, 2048, 1024]⟩
abbrev S1x1 : Shape := ⟨2, ![1, 1]⟩

abbrev nBuf : Space → Nat
  | .hbm => 2
  | .vmem => 3
  | .smem => 0
  | _ => 0

abbrev bufTy : (tb : Table) → Fin (tcTables nBuf tb) → BufTy
  | .hbm, ⟨0, _⟩ => ⟨S1x16384x2048, .f32⟩
  | .hbm, ⟨1, _⟩ => ⟨S16384x1024, .f32⟩
  | .local _ .vmem, ⟨0, _⟩ => ⟨S8x256x1024, .f32⟩
  | .local _ .vmem, ⟨1, _⟩ => ⟨S2048x1024, .f32⟩
  | .local _ .vmem, ⟨2, _⟩ => ⟨S2048x1024, .f32⟩
  | _, _ => ⟨S1x16384x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 146 → Bool
  | ⟨i, _⟩ => dmaSemScopedAt i

abbrev sig : RefSig :=
  (ofTc nBuf bufTy 1 146 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_31 : BitVec 32 := 8#32
  let v50 : BitVec 32 := Scalar.muli v9 c8_i32_31
  let v51 : BitVec 32 := Scalar.addi c0_i32_32 v50
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v52 : BitVec 32 := Scalar.muli v5 c4_i32_33
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v54 : BitVec 32 := Scalar.muli v8 c1_i32_34
  let v55 : BitVec 32 := Scalar.addi v53 v54
  v55.toNat
def k0_dev2 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_36 : BitVec 32 := 8#32
  let v56 : BitVec 32 := Scalar.muli v2 c8_i32_36
  let v57 : BitVec 32 := Scalar.addi c0_i32_37 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_38 : BitVec 32 := 4#32
  let v58 : BitVec 32 := Scalar.muli v45 c4_i32_38
  let v59 : BitVec 32 := Scalar.addi v57 v58
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_39 : BitVec 32 := 1#32
  let v60 : BitVec 32 := Scalar.muli v48 c1_i32_39
  let v61 : BitVec 32 := Scalar.addi v59 v60
  v61.toNat
def k0_dev3 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v62 : BitVec 32 := Scalar.muli v2 c8_i32_41
  let v63 : BitVec 32 := Scalar.addi c0_i32_42 v62
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_43 : BitVec 32 := 4#32
  let v64 : BitVec 32 := Scalar.muli v40 c4_i32_43
  let v65 : BitVec 32 := Scalar.addi v63 v64
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_44 : BitVec 32 := 1#32
  let v66 : BitVec 32 := Scalar.muli v43 c1_i32_44
  let v67 : BitVec 32 := Scalar.addi v65 v66
  v67.toNat
def k0_off1 (d0 : Dev nD) (c0_i32_45 : BitVec 32) : Fin 3 → Nat :=
  let c0_i32_46 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c2048_i32 : BitVec 32 := 2048#32
  let v68 : BitVec 32 := Scalar.muli v15 c2048_i32
  let v69 : BitVec 32 := Scalar.addi v68 c0_i32_45
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c1024_i32_4 : BitVec 32 := 1024#32
  let v12 : BitVec 32 := Scalar.muli v11 c1024_i32_4
  ![0, v69.toNat, v12.toNat]
def k0_dev4 (d0 : Dev nD) : Nat :=
  let c0_i32_51 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_50 : BitVec 32 := 8#32
  let v70 : BitVec 32 := Scalar.muli v9 c8_i32_50
  let v71 : BitVec 32 := Scalar.addi c0_i32_51 v70
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_52 : BitVec 32 := 4#32
  let v72 : BitVec 32 := Scalar.muli v5 c4_i32_52
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v74 : BitVec 32 := Scalar.muli v8 c1_i32_53
  let v75 : BitVec 32 := Scalar.addi v73 v74
  v75.toNat
def k0_dev5 (d0 : Dev nD) : Nat :=
  let c0_i32_62 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_61 : BitVec 32 := 8#32
  let v86 : BitVec 32 := Scalar.muli v9 c8_i32_61
  let v87 : BitVec 32 := Scalar.addi c0_i32_62 v86
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_63 : BitVec 32 := 4#32
  let v88 : BitVec 32 := Scalar.muli v5 c4_i32_63
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v90 : BitVec 32 := Scalar.muli v8 c1_i32_64
  let v91 : BitVec 32 := Scalar.addi v89 v90
  v91.toNat
def k0_dev6 (d0 : Dev nD) : Nat :=
  let c0_i32_73 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_72 : BitVec 32 := 8#32
  let v102 : BitVec 32 := Scalar.muli v9 c8_i32_72
  let v103 : BitVec 32 := Scalar.addi c0_i32_73 v102
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_74 : BitVec 32 := 4#32
  let v104 : BitVec 32 := Scalar.muli v5 c4_i32_74
  let v105 : BitVec 32 := Scalar.addi v103 v104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v106 : BitVec 32 := Scalar.muli v8 c1_i32_75
  let v107 : BitVec 32 := Scalar.addi v105 v106
  v107.toNat
def k0_dev7 (d0 : Dev nD) : Nat :=
  let c0_i32_84 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_83 : BitVec 32 := 8#32
  let v118 : BitVec 32 := Scalar.muli v9 c8_i32_83
  let v119 : BitVec 32 := Scalar.addi c0_i32_84 v118
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_85 : BitVec 32 := 4#32
  let v120 : BitVec 32 := Scalar.muli v5 c4_i32_85
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_86 : BitVec 32 := 1#32
  let v122 : BitVec 32 := Scalar.muli v8 c1_i32_86
  let v123 : BitVec 32 := Scalar.addi v121 v122
  v123.toNat
def k0_dev8 (d0 : Dev nD) : Nat :=
  let c0_i32_96 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_95 : BitVec 32 := 8#32
  let v134 : BitVec 32 := Scalar.muli v9 c8_i32_95
  let v135 : BitVec 32 := Scalar.addi c0_i32_96 v134
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_97 : BitVec 32 := 4#32
  let v136 : BitVec 32 := Scalar.muli v5 c4_i32_97
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_98 : BitVec 32 := 1#32
  let v138 : BitVec 32 := Scalar.muli v8 c1_i32_98
  let v139 : BitVec 32 := Scalar.addi v137 v138
  v139.toNat
def k0_dev9 (d0 : Dev nD) : Nat :=
  let c0_i32_106 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_105 : BitVec 32 := 8#32
  let v150 : BitVec 32 := Scalar.muli v9 c8_i32_105
  let v151 : BitVec 32 := Scalar.addi c0_i32_106 v150
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_107 : BitVec 32 := 4#32
  let v152 : BitVec 32 := Scalar.muli v5 c4_i32_107
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v154 : BitVec 32 := Scalar.muli v8 c1_i32_108
  let v155 : BitVec 32 := Scalar.addi v153 v154
  v155.toNat
def k0_dev10 (d0 : Dev nD) : Nat :=
  let c0_i32_116 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_115 : BitVec 32 := 8#32
  let v166 : BitVec 32 := Scalar.muli v9 c8_i32_115
  let v167 : BitVec 32 := Scalar.addi c0_i32_116 v166
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_117 : BitVec 32 := 4#32
  let v168 : BitVec 32 := Scalar.muli v5 c4_i32_117
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v170 : BitVec 32 := Scalar.muli v8 c1_i32_118
  let v171 : BitVec 32 := Scalar.addi v169 v170
  v171.toNat
def k0_dev11 (d0 : Dev nD) : Nat :=
  let c0_i32_127 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_126 : BitVec 32 := 8#32
  let v182 : BitVec 32 := Scalar.muli v9 c8_i32_126
  let v183 : BitVec 32 := Scalar.addi c0_i32_127 v182
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_128 : BitVec 32 := 4#32
  let v184 : BitVec 32 := Scalar.muli v5 c4_i32_128
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v186 : BitVec 32 := Scalar.muli v8 c1_i32_129
  let v187 : BitVec 32 := Scalar.addi v185 v186
  v187.toNat
def k0_off2 (d0 : Dev nD) : Fin 3 → Nat :=
  let c0_i32_133 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c2048_i32_132 : BitVec 32 := 2048#32
  let v196 : BitVec 32 := Scalar.muli v15 c2048_i32_132
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v10 : BitVec 32 := Scalar.muli v2 c1024_i32
  ![0, v196.toNat, v10.toNat]
def k0_off3 (d0 : Dev nD) (c0_i32_153 : BitVec 32) (c0_i32_162 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let v222 : BitVec 32 := Scalar.subi v15 c0_i32_153
  let c8_i32_154 : BitVec 32 := 8#32
  let v223 : BitVec 32 := Scalar.addi v222 c8_i32_154
  let c8_i32_155 : BitVec 32 := 8#32
  let c0_i32_156 : BitVec 32 := 0#32
  let v224 : BitVec 1 := Scalar.cmpi .eq c8_i32_155 c0_i32_156
  let c1_i32_157 : BitVec 32 := 1#32
  let v225 : BitVec 32 := Scalar.select v224 c1_i32_157 c8_i32_155
  let v226 : BitVec 32 := Scalar.remsi v223 v225
  let c0_i32_159 : BitVec 32 := 0#32
  let v228 : BitVec 1 := Scalar.cmpi .slt v226 c0_i32_159
  let c0_i32_160 : BitVec 32 := 0#32
  let v229 : BitVec 1 := Scalar.cmpi .slt v225 c0_i32_160
  let v230 : BitVec 1 := Scalar.xori v228 v229
  let c0_i32_158 : BitVec 32 := 0#32
  let v227 : BitVec 1 := Scalar.cmpi .ne v226 c0_i32_158
  let v231 : BitVec 1 := Scalar.andi v230 v227
  let v232 : BitVec 32 := Scalar.addi v226 v225
  let v233 : BitVec 32 := Scalar.select v231 v232 v226
  let c2048_i32_161 : BitVec 32 := 2048#32
  let v234 : BitVec 32 := Scalar.muli v233 c2048_i32_161
  let v235 : BitVec 32 := Scalar.addi v234 c0_i32_162
  let c0_i32_171 : BitVec 32 := 0#32
  ![v235.toNat, 0]
def k0_off3_at (r : Fin 28) : BitVec 32 × BitVec 32 :=
  if r.val < 14 then
    if r.val < 7 then
      if r.val < 3 then
        if r.val < 1 then
          (0#32, 0#32)
        else
          if r.val < 2 then
            (0#32, 256#32)
          else
            (0#32, 512#32)
      else
        if r.val < 5 then
          if r.val < 4 then
            (0#32, 768#32)
          else
            (0#32, 1024#32)
        else
          if r.val < 6 then
            (0#32, 1280#32)
          else
            (0#32, 1536#32)
    else
      if r.val < 10 then
        if r.val < 8 then
          (0#32, 1792#32)
        else
          if r.val < 9 then
            (1#32, 0#32)
          else
            (1#32, 256#32)
      else
        if r.val < 12 then
          if r.val < 11 then
            (1#32, 512#32)
          else
            (1#32, 768#32)
        else
          if r.val < 13 then
            (1#32, 1024#32)
          else
            (1#32, 1280#32)
  else
    if r.val < 21 then
      if r.val < 17 then
        if r.val < 15 then
          (1#32, 1536#32)
        else
          if r.val < 16 then
            (1#32, 1792#32)
          else
            (2#32, 0#32)
      else
        if r.val < 19 then
          if r.val < 18 then
            (2#32, 256#32)
          else
            (2#32, 512#32)
        else
          if r.val < 20 then
            (2#32, 768#32)
          else
            (2#32, 1024#32)
    else
      if r.val < 24 then
        if r.val < 22 then
          (2#32, 1280#32)
        else
          if r.val < 23 then
            (2#32, 1536#32)
          else
            (2#32, 1792#32)
      else
        if r.val < 26 then
          if r.val < 25 then
            (3#32, 0#32)
          else
            (3#32, 256#32)
        else
          if r.val < 27 then
            (3#32, 512#32)
          else
            (3#32, 768#32)
def k0_dev12 (d0 : Dev nD) : Nat :=
  let c0_i32_168 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_167 : BitVec 32 := 8#32
  let v236 : BitVec 32 := Scalar.muli v2 c8_i32_167
  let v237 : BitVec 32 := Scalar.addi c0_i32_168 v236
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_169 : BitVec 32 := 4#32
  let v238 : BitVec 32 := Scalar.muli v40 c4_i32_169
  let v239 : BitVec 32 := Scalar.addi v237 v238
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_170 : BitVec 32 := 1#32
  let v240 : BitVec 32 := Scalar.muli v43 c1_i32_170
  let v241 : BitVec 32 := Scalar.addi v239 v240
  v241.toNat
def k0_off4 (d0 : Dev nD) (c0_i32_174 : BitVec 32) (c0_i32_182 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let v248 : BitVec 32 := Scalar.addi v15 c0_i32_174
  let c8_i32_175 : BitVec 32 := 8#32
  let c0_i32_176 : BitVec 32 := 0#32
  let v249 : BitVec 1 := Scalar.cmpi .eq c8_i32_175 c0_i32_176
  let c1_i32_177 : BitVec 32 := 1#32
  let v250 : BitVec 32 := Scalar.select v249 c1_i32_177 c8_i32_175
  let v251 : BitVec 32 := Scalar.remsi v248 v250
  let c0_i32_179 : BitVec 32 := 0#32
  let v253 : BitVec 1 := Scalar.cmpi .slt v251 c0_i32_179
  let c0_i32_180 : BitVec 32 := 0#32
  let v254 : BitVec 1 := Scalar.cmpi .slt v250 c0_i32_180
  let v255 : BitVec 1 := Scalar.xori v253 v254
  let c0_i32_178 : BitVec 32 := 0#32
  let v252 : BitVec 1 := Scalar.cmpi .ne v251 c0_i32_178
  let v256 : BitVec 1 := Scalar.andi v255 v252
  let v257 : BitVec 32 := Scalar.addi v251 v250
  let v258 : BitVec 32 := Scalar.select v256 v257 v251
  let c2048_i32_181 : BitVec 32 := 2048#32
  let v259 : BitVec 32 := Scalar.muli v258 c2048_i32_181
  let v260 : BitVec 32 := Scalar.addi v259 c0_i32_182
  let c0_i32_191 : BitVec 32 := 0#32
  ![v260.toNat, 0]
def k0_off4_at (r : Fin 28) : BitVec 32 × BitVec 32 :=
  if r.val < 14 then
    if r.val < 7 then
      if r.val < 3 then
        if r.val < 1 then
          (0#32, 0#32)
        else
          if r.val < 2 then
            (0#32, 256#32)
          else
            (0#32, 512#32)
      else
        if r.val < 5 then
          if r.val < 4 then
            (0#32, 768#32)
          else
            (0#32, 1024#32)
        else
          if r.val < 6 then
            (0#32, 1280#32)
          else
            (0#32, 1536#32)
    else
      if r.val < 10 then
        if r.val < 8 then
          (0#32, 1792#32)
        else
          if r.val < 9 then
            (1#32, 0#32)
          else
            (1#32, 256#32)
      else
        if r.val < 12 then
          if r.val < 11 then
            (1#32, 512#32)
          else
            (1#32, 768#32)
        else
          if r.val < 13 then
            (1#32, 1024#32)
          else
            (1#32, 1280#32)
  else
    if r.val < 21 then
      if r.val < 17 then
        if r.val < 15 then
          (1#32, 1536#32)
        else
          if r.val < 16 then
            (1#32, 1792#32)
          else
            (2#32, 0#32)
      else
        if r.val < 19 then
          if r.val < 18 then
            (2#32, 256#32)
          else
            (2#32, 512#32)
        else
          if r.val < 20 then
            (2#32, 768#32)
          else
            (2#32, 1024#32)
    else
      if r.val < 24 then
        if r.val < 22 then
          (2#32, 1280#32)
        else
          if r.val < 23 then
            (2#32, 1536#32)
          else
            (2#32, 1792#32)
      else
        if r.val < 26 then
          if r.val < 25 then
            (3#32, 1024#32)
          else
            (3#32, 1280#32)
        else
          if r.val < 27 then
            (3#32, 1536#32)
          else
            (3#32, 1792#32)
def k0_dev13 (d0 : Dev nD) : Nat :=
  let c0_i32_188 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_187 : BitVec 32 := 8#32
  let v261 : BitVec 32 := Scalar.muli v2 c8_i32_187
  let v262 : BitVec 32 := Scalar.addi c0_i32_188 v261
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_189 : BitVec 32 := 4#32
  let v263 : BitVec 32 := Scalar.muli v45 c4_i32_189
  let v264 : BitVec 32 := Scalar.addi v262 v263
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_190 : BitVec 32 := 1#32
  let v265 : BitVec 32 := Scalar.muli v48 c1_i32_190
  let v266 : BitVec 32 := Scalar.addi v264 v265
  v266.toNat
def k0_dev14 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v308 : BitVec 32 := Scalar.muli v2 c8_i32_225
  let v309 : BitVec 32 := Scalar.addi c0_i32_226 v308
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_227 : BitVec 32 := 4#32
  let v310 : BitVec 32 := Scalar.muli v40 c4_i32_227
  let v311 : BitVec 32 := Scalar.addi v309 v310
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_228 : BitVec 32 := 1#32
  let v312 : BitVec 32 := Scalar.muli v43 c1_i32_228
  let v313 : BitVec 32 := Scalar.addi v311 v312
  v313.toNat
def k0_dev15 (d0 : Dev nD) : Nat :=
  let c0_i32_246 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_245 : BitVec 32 := 8#32
  let v333 : BitVec 32 := Scalar.muli v2 c8_i32_245
  let v334 : BitVec 32 := Scalar.addi c0_i32_246 v333
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_247 : BitVec 32 := 4#32
  let v335 : BitVec 32 := Scalar.muli v45 c4_i32_247
  let v336 : BitVec 32 := Scalar.addi v334 v335
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_248 : BitVec 32 := 1#32
  let v337 : BitVec 32 := Scalar.muli v48 c1_i32_248
  let v338 : BitVec 32 := Scalar.addi v336 v337
  v338.toNat
def k0_dev16 (d0 : Dev nD) : Nat :=
  let c0_i32_284 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_283 : BitVec 32 := 8#32
  let v380 : BitVec 32 := Scalar.muli v2 c8_i32_283
  let v381 : BitVec 32 := Scalar.addi c0_i32_284 v380
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_285 : BitVec 32 := 4#32
  let v382 : BitVec 32 := Scalar.muli v40 c4_i32_285
  let v383 : BitVec 32 := Scalar.addi v381 v382
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_286 : BitVec 32 := 1#32
  let v384 : BitVec 32 := Scalar.muli v43 c1_i32_286
  let v385 : BitVec 32 := Scalar.addi v383 v384
  v385.toNat
def k0_dev17 (d0 : Dev nD) : Nat :=
  let c0_i32_304 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_303 : BitVec 32 := 8#32
  let v405 : BitVec 32 := Scalar.muli v2 c8_i32_303
  let v406 : BitVec 32 := Scalar.addi c0_i32_304 v405
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_305 : BitVec 32 := 4#32
  let v407 : BitVec 32 := Scalar.muli v45 c4_i32_305
  let v408 : BitVec 32 := Scalar.addi v406 v407
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_306 : BitVec 32 := 1#32
  let v409 : BitVec 32 := Scalar.muli v48 c1_i32_306
  let v410 : BitVec 32 := Scalar.addi v408 v409
  v410.toNat
def k0_dev18 (d0 : Dev nD) : Nat :=
  let c0_i32_342 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_341 : BitVec 32 := 8#32
  let v452 : BitVec 32 := Scalar.muli v2 c8_i32_341
  let v453 : BitVec 32 := Scalar.addi c0_i32_342 v452
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_343 : BitVec 32 := 4#32
  let v454 : BitVec 32 := Scalar.muli v40 c4_i32_343
  let v455 : BitVec 32 := Scalar.addi v453 v454
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_344 : BitVec 32 := 1#32
  let v456 : BitVec 32 := Scalar.muli v43 c1_i32_344
  let v457 : BitVec 32 := Scalar.addi v455 v456
  v457.toNat
def k0_dev19 (d0 : Dev nD) : Nat :=
  let c0_i32_362 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_361 : BitVec 32 := 8#32
  let v477 : BitVec 32 := Scalar.muli v2 c8_i32_361
  let v478 : BitVec 32 := Scalar.addi c0_i32_362 v477
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_363 : BitVec 32 := 4#32
  let v479 : BitVec 32 := Scalar.muli v45 c4_i32_363
  let v480 : BitVec 32 := Scalar.addi v478 v479
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_364 : BitVec 32 := 1#32
  let v481 : BitVec 32 := Scalar.muli v48 c1_i32_364
  let v482 : BitVec 32 := Scalar.addi v480 v481
  v482.toNat
def k0_dev20 (d0 : Dev nD) : Nat :=
  let c0_i32_400 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_399 : BitVec 32 := 8#32
  let v524 : BitVec 32 := Scalar.muli v2 c8_i32_399
  let v525 : BitVec 32 := Scalar.addi c0_i32_400 v524
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_401 : BitVec 32 := 4#32
  let v526 : BitVec 32 := Scalar.muli v40 c4_i32_401
  let v527 : BitVec 32 := Scalar.addi v525 v526
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_402 : BitVec 32 := 1#32
  let v528 : BitVec 32 := Scalar.muli v43 c1_i32_402
  let v529 : BitVec 32 := Scalar.addi v527 v528
  v529.toNat
def k0_dev21 (d0 : Dev nD) : Nat :=
  let c0_i32_420 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_419 : BitVec 32 := 8#32
  let v549 : BitVec 32 := Scalar.muli v2 c8_i32_419
  let v550 : BitVec 32 := Scalar.addi c0_i32_420 v549
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_421 : BitVec 32 := 4#32
  let v551 : BitVec 32 := Scalar.muli v45 c4_i32_421
  let v552 : BitVec 32 := Scalar.addi v550 v551
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_422 : BitVec 32 := 1#32
  let v553 : BitVec 32 := Scalar.muli v48 c1_i32_422
  let v554 : BitVec 32 := Scalar.addi v552 v553
  v554.toNat
def k0_dev22 (d0 : Dev nD) : Nat :=
  let c0_i32_458 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_457 : BitVec 32 := 8#32
  let v596 : BitVec 32 := Scalar.muli v2 c8_i32_457
  let v597 : BitVec 32 := Scalar.addi c0_i32_458 v596
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_459 : BitVec 32 := 4#32
  let v598 : BitVec 32 := Scalar.muli v40 c4_i32_459
  let v599 : BitVec 32 := Scalar.addi v597 v598
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_460 : BitVec 32 := 1#32
  let v600 : BitVec 32 := Scalar.muli v43 c1_i32_460
  let v601 : BitVec 32 := Scalar.addi v599 v600
  v601.toNat
def k0_dev23 (d0 : Dev nD) : Nat :=
  let c0_i32_478 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_477 : BitVec 32 := 8#32
  let v621 : BitVec 32 := Scalar.muli v2 c8_i32_477
  let v622 : BitVec 32 := Scalar.addi c0_i32_478 v621
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_479 : BitVec 32 := 4#32
  let v623 : BitVec 32 := Scalar.muli v45 c4_i32_479
  let v624 : BitVec 32 := Scalar.addi v622 v623
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_480 : BitVec 32 := 1#32
  let v625 : BitVec 32 := Scalar.muli v48 c1_i32_480
  let v626 : BitVec 32 := Scalar.addi v624 v625
  v626.toNat
def k0_dev24 (d0 : Dev nD) : Nat :=
  let c0_i32_516 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_515 : BitVec 32 := 8#32
  let v668 : BitVec 32 := Scalar.muli v2 c8_i32_515
  let v669 : BitVec 32 := Scalar.addi c0_i32_516 v668
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_517 : BitVec 32 := 4#32
  let v670 : BitVec 32 := Scalar.muli v40 c4_i32_517
  let v671 : BitVec 32 := Scalar.addi v669 v670
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_518 : BitVec 32 := 1#32
  let v672 : BitVec 32 := Scalar.muli v43 c1_i32_518
  let v673 : BitVec 32 := Scalar.addi v671 v672
  v673.toNat
def k0_dev25 (d0 : Dev nD) : Nat :=
  let c0_i32_536 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_535 : BitVec 32 := 8#32
  let v693 : BitVec 32 := Scalar.muli v2 c8_i32_535
  let v694 : BitVec 32 := Scalar.addi c0_i32_536 v693
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_537 : BitVec 32 := 4#32
  let v695 : BitVec 32 := Scalar.muli v45 c4_i32_537
  let v696 : BitVec 32 := Scalar.addi v694 v695
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_538 : BitVec 32 := 1#32
  let v697 : BitVec 32 := Scalar.muli v48 c1_i32_538
  let v698 : BitVec 32 := Scalar.addi v696 v697
  v698.toNat
def k0_dev26 (d0 : Dev nD) : Nat :=
  let c0_i32_574 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_573 : BitVec 32 := 8#32
  let v740 : BitVec 32 := Scalar.muli v2 c8_i32_573
  let v741 : BitVec 32 := Scalar.addi c0_i32_574 v740
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_575 : BitVec 32 := 4#32
  let v742 : BitVec 32 := Scalar.muli v40 c4_i32_575
  let v743 : BitVec 32 := Scalar.addi v741 v742
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_576 : BitVec 32 := 1#32
  let v744 : BitVec 32 := Scalar.muli v43 c1_i32_576
  let v745 : BitVec 32 := Scalar.addi v743 v744
  v745.toNat
def k0_dev27 (d0 : Dev nD) : Nat :=
  let c0_i32_594 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_593 : BitVec 32 := 8#32
  let v765 : BitVec 32 := Scalar.muli v2 c8_i32_593
  let v766 : BitVec 32 := Scalar.addi c0_i32_594 v765
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_595 : BitVec 32 := 4#32
  let v767 : BitVec 32 := Scalar.muli v45 c4_i32_595
  let v768 : BitVec 32 := Scalar.addi v766 v767
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_596 : BitVec 32 := 1#32
  let v769 : BitVec 32 := Scalar.muli v48 c1_i32_596
  let v770 : BitVec 32 := Scalar.addi v768 v769
  v770.toNat
def k0_off5 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c2048_i32_600 : BitVec 32 := 2048#32
  let v777 : BitVec 32 := Scalar.muli v15 c2048_i32_600
  let c0_i32_601 : BitVec 32 := 0#32
  ![v777.toNat, 0]
def k0_off6 (d0 : Dev nD) (c0_i32_603 : BitVec 32) (c0_i32_612 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_602 : BitVec 32 := 1#32
  let v779 : BitVec 32 := Scalar.subi v15 c1_i32_602
  let v780 : BitVec 32 := Scalar.subi v779 c0_i32_603
  let c8_i32_604 : BitVec 32 := 8#32
  let v781 : BitVec 32 := Scalar.addi v780 c8_i32_604
  let c8_i32_605 : BitVec 32 := 8#32
  let c0_i32_606 : BitVec 32 := 0#32
  let v782 : BitVec 1 := Scalar.cmpi .eq c8_i32_605 c0_i32_606
  let c1_i32_607 : BitVec 32 := 1#32
  let v783 : BitVec 32 := Scalar.select v782 c1_i32_607 c8_i32_605
  let v784 : BitVec 32 := Scalar.remsi v781 v783
  let c0_i32_609 : BitVec 32 := 0#32
  let v786 : BitVec 1 := Scalar.cmpi .slt v784 c0_i32_609
  let c0_i32_610 : BitVec 32 := 0#32
  let v787 : BitVec 1 := Scalar.cmpi .slt v783 c0_i32_610
  let v788 : BitVec 1 := Scalar.xori v786 v787
  let c0_i32_608 : BitVec 32 := 0#32
  let v785 : BitVec 1 := Scalar.cmpi .ne v784 c0_i32_608
  let v789 : BitVec 1 := Scalar.andi v788 v785
  let v790 : BitVec 32 := Scalar.addi v784 v783
  let v791 : BitVec 32 := Scalar.select v789 v790 v784
  let c2048_i32_611 : BitVec 32 := 2048#32
  let v792 : BitVec 32 := Scalar.muli v791 c2048_i32_611
  let v793 : BitVec 32 := Scalar.addi v792 c0_i32_612
  let c0_i32_621 : BitVec 32 := 0#32
  ![v793.toNat, 0]
def k0_off6_at (r : Fin 28) : BitVec 32 × BitVec 32 :=
  if r.val < 14 then
    if r.val < 7 then
      if r.val < 3 then
        if r.val < 1 then
          (0#32, 0#32)
        else
          if r.val < 2 then
            (0#32, 256#32)
          else
            (0#32, 512#32)
      else
        if r.val < 5 then
          if r.val < 4 then
            (0#32, 768#32)
          else
            (0#32, 1024#32)
        else
          if r.val < 6 then
            (0#32, 1280#32)
          else
            (0#32, 1536#32)
    else
      if r.val < 10 then
        if r.val < 8 then
          (0#32, 1792#32)
        else
          if r.val < 9 then
            (1#32, 0#32)
          else
            (1#32, 256#32)
      else
        if r.val < 12 then
          if r.val < 11 then
            (1#32, 512#32)
          else
            (1#32, 768#32)
        else
          if r.val < 13 then
            (1#32, 1024#32)
          else
            (1#32, 1280#32)
  else
    if r.val < 21 then
      if r.val < 17 then
        if r.val < 15 then
          (1#32, 1536#32)
        else
          if r.val < 16 then
            (1#32, 1792#32)
          else
            (2#32, 0#32)
      else
        if r.val < 19 then
          if r.val < 18 then
            (2#32, 256#32)
          else
            (2#32, 512#32)
        else
          if r.val < 20 then
            (2#32, 768#32)
          else
            (2#32, 1024#32)
    else
      if r.val < 24 then
        if r.val < 22 then
          (2#32, 1280#32)
        else
          if r.val < 23 then
            (2#32, 1536#32)
          else
            (2#32, 1792#32)
      else
        if r.val < 26 then
          if r.val < 25 then
            (3#32, 0#32)
          else
            (3#32, 256#32)
        else
          if r.val < 27 then
            (3#32, 512#32)
          else
            (3#32, 768#32)
def k0_dev28 (d0 : Dev nD) : Nat :=
  let c0_i32_641 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_640 : BitVec 32 := 8#32
  let v820 : BitVec 32 := Scalar.muli v2 c8_i32_640
  let v821 : BitVec 32 := Scalar.addi c0_i32_641 v820
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_642 : BitVec 32 := 4#32
  let v822 : BitVec 32 := Scalar.muli v40 c4_i32_642
  let v823 : BitVec 32 := Scalar.addi v821 v822
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_643 : BitVec 32 := 1#32
  let v824 : BitVec 32 := Scalar.muli v43 c1_i32_643
  let v825 : BitVec 32 := Scalar.addi v823 v824
  v825.toNat
def k0_off7 (d0 : Dev nD) (c0_i32_647 : BitVec 32) (c0_i32_655 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_646 : BitVec 32 := 1#32
  let v832 : BitVec 32 := Scalar.addi v15 c1_i32_646
  let v833 : BitVec 32 := Scalar.addi v832 c0_i32_647
  let c8_i32_648 : BitVec 32 := 8#32
  let c0_i32_649 : BitVec 32 := 0#32
  let v834 : BitVec 1 := Scalar.cmpi .eq c8_i32_648 c0_i32_649
  let c1_i32_650 : BitVec 32 := 1#32
  let v835 : BitVec 32 := Scalar.select v834 c1_i32_650 c8_i32_648
  let v836 : BitVec 32 := Scalar.remsi v833 v835
  let c0_i32_652 : BitVec 32 := 0#32
  let v838 : BitVec 1 := Scalar.cmpi .slt v836 c0_i32_652
  let c0_i32_653 : BitVec 32 := 0#32
  let v839 : BitVec 1 := Scalar.cmpi .slt v835 c0_i32_653
  let v840 : BitVec 1 := Scalar.xori v838 v839
  let c0_i32_651 : BitVec 32 := 0#32
  let v837 : BitVec 1 := Scalar.cmpi .ne v836 c0_i32_651
  let v841 : BitVec 1 := Scalar.andi v840 v837
  let v842 : BitVec 32 := Scalar.addi v836 v835
  let v843 : BitVec 32 := Scalar.select v841 v842 v836
  let c2048_i32_654 : BitVec 32 := 2048#32
  let v844 : BitVec 32 := Scalar.muli v843 c2048_i32_654
  let v845 : BitVec 32 := Scalar.addi v844 c0_i32_655
  let c0_i32_664 : BitVec 32 := 0#32
  ![v845.toNat, 0]
def k0_off7_at (r : Fin 28) : BitVec 32 × BitVec 32 :=
  if r.val < 14 then
    if r.val < 7 then
      if r.val < 3 then
        if r.val < 1 then
          (0#32, 0#32)
        else
          if r.val < 2 then
            (0#32, 256#32)
          else
            (0#32, 512#32)
      else
        if r.val < 5 then
          if r.val < 4 then
            (0#32, 768#32)
          else
            (0#32, 1024#32)
        else
          if r.val < 6 then
            (0#32, 1280#32)
          else
            (0#32, 1536#32)
    else
      if r.val < 10 then
        if r.val < 8 then
          (0#32, 1792#32)
        else
          if r.val < 9 then
            (1#32, 0#32)
          else
            (1#32, 256#32)
      else
        if r.val < 12 then
          if r.val < 11 then
            (1#32, 512#32)
          else
            (1#32, 768#32)
        else
          if r.val < 13 then
            (1#32, 1024#32)
          else
            (1#32, 1280#32)
  else
    if r.val < 21 then
      if r.val < 17 then
        if r.val < 15 then
          (1#32, 1536#32)
        else
          if r.val < 16 then
            (1#32, 1792#32)
          else
            (2#32, 0#32)
      else
        if r.val < 19 then
          if r.val < 18 then
            (2#32, 256#32)
          else
            (2#32, 512#32)
        else
          if r.val < 20 then
            (2#32, 768#32)
          else
            (2#32, 1024#32)
    else
      if r.val < 24 then
        if r.val < 22 then
          (2#32, 1280#32)
        else
          if r.val < 23 then
            (2#32, 1536#32)
          else
            (2#32, 1792#32)
      else
        if r.val < 26 then
          if r.val < 25 then
            (3#32, 1024#32)
          else
            (3#32, 1280#32)
        else
          if r.val < 27 then
            (3#32, 1536#32)
          else
            (3#32, 1792#32)
def k0_dev29 (d0 : Dev nD) : Nat :=
  let c0_i32_683 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_682 : BitVec 32 := 8#32
  let v871 : BitVec 32 := Scalar.muli v2 c8_i32_682
  let v872 : BitVec 32 := Scalar.addi c0_i32_683 v871
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_684 : BitVec 32 := 4#32
  let v873 : BitVec 32 := Scalar.muli v45 c4_i32_684
  let v874 : BitVec 32 := Scalar.addi v872 v873
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_685 : BitVec 32 := 1#32
  let v875 : BitVec 32 := Scalar.muli v48 c1_i32_685
  let v876 : BitVec 32 := Scalar.addi v874 v875
  v876.toNat
def k0_dev30 (d0 : Dev nD) : Nat :=
  let c0_i32_727 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_726 : BitVec 32 := 8#32
  let v924 : BitVec 32 := Scalar.muli v2 c8_i32_726
  let v925 : BitVec 32 := Scalar.addi c0_i32_727 v924
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_728 : BitVec 32 := 4#32
  let v926 : BitVec 32 := Scalar.muli v40 c4_i32_728
  let v927 : BitVec 32 := Scalar.addi v925 v926
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_729 : BitVec 32 := 1#32
  let v928 : BitVec 32 := Scalar.muli v43 c1_i32_729
  let v929 : BitVec 32 := Scalar.addi v927 v928
  v929.toNat
def k0_dev31 (d0 : Dev nD) : Nat :=
  let c0_i32_769 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_768 : BitVec 32 := 8#32
  let v975 : BitVec 32 := Scalar.muli v2 c8_i32_768
  let v976 : BitVec 32 := Scalar.addi c0_i32_769 v975
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_770 : BitVec 32 := 4#32
  let v977 : BitVec 32 := Scalar.muli v45 c4_i32_770
  let v978 : BitVec 32 := Scalar.addi v976 v977
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_771 : BitVec 32 := 1#32
  let v979 : BitVec 32 := Scalar.muli v48 c1_i32_771
  let v980 : BitVec 32 := Scalar.addi v978 v979
  v980.toNat
def k0_dev32 (d0 : Dev nD) : Nat :=
  let c0_i32_813 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_812 : BitVec 32 := 8#32
  let v1028 : BitVec 32 := Scalar.muli v2 c8_i32_812
  let v1029 : BitVec 32 := Scalar.addi c0_i32_813 v1028
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_814 : BitVec 32 := 4#32
  let v1030 : BitVec 32 := Scalar.muli v40 c4_i32_814
  let v1031 : BitVec 32 := Scalar.addi v1029 v1030
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_815 : BitVec 32 := 1#32
  let v1032 : BitVec 32 := Scalar.muli v43 c1_i32_815
  let v1033 : BitVec 32 := Scalar.addi v1031 v1032
  v1033.toNat
def k0_dev33 (d0 : Dev nD) : Nat :=
  let c0_i32_855 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_854 : BitVec 32 := 8#32
  let v1079 : BitVec 32 := Scalar.muli v2 c8_i32_854
  let v1080 : BitVec 32 := Scalar.addi c0_i32_855 v1079
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_856 : BitVec 32 := 4#32
  let v1081 : BitVec 32 := Scalar.muli v45 c4_i32_856
  let v1082 : BitVec 32 := Scalar.addi v1080 v1081
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_857 : BitVec 32 := 1#32
  let v1083 : BitVec 32 := Scalar.muli v48 c1_i32_857
  let v1084 : BitVec 32 := Scalar.addi v1082 v1083
  v1084.toNat
def k0_dev34 (d0 : Dev nD) : Nat :=
  let c0_i32_899 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_898 : BitVec 32 := 8#32
  let v1132 : BitVec 32 := Scalar.muli v2 c8_i32_898
  let v1133 : BitVec 32 := Scalar.addi c0_i32_899 v1132
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_900 : BitVec 32 := 4#32
  let v1134 : BitVec 32 := Scalar.muli v40 c4_i32_900
  let v1135 : BitVec 32 := Scalar.addi v1133 v1134
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_901 : BitVec 32 := 1#32
  let v1136 : BitVec 32 := Scalar.muli v43 c1_i32_901
  let v1137 : BitVec 32 := Scalar.addi v1135 v1136
  v1137.toNat
def k0_dev35 (d0 : Dev nD) : Nat :=
  let c0_i32_941 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_940 : BitVec 32 := 8#32
  let v1183 : BitVec 32 := Scalar.muli v2 c8_i32_940
  let v1184 : BitVec 32 := Scalar.addi c0_i32_941 v1183
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_942 : BitVec 32 := 4#32
  let v1185 : BitVec 32 := Scalar.muli v45 c4_i32_942
  let v1186 : BitVec 32 := Scalar.addi v1184 v1185
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_943 : BitVec 32 := 1#32
  let v1187 : BitVec 32 := Scalar.muli v48 c1_i32_943
  let v1188 : BitVec 32 := Scalar.addi v1186 v1187
  v1188.toNat
def k0_dev36 (d0 : Dev nD) : Nat :=
  let c0_i32_985 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_984 : BitVec 32 := 8#32
  let v1236 : BitVec 32 := Scalar.muli v2 c8_i32_984
  let v1237 : BitVec 32 := Scalar.addi c0_i32_985 v1236
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_986 : BitVec 32 := 4#32
  let v1238 : BitVec 32 := Scalar.muli v40 c4_i32_986
  let v1239 : BitVec 32 := Scalar.addi v1237 v1238
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_987 : BitVec 32 := 1#32
  let v1240 : BitVec 32 := Scalar.muli v43 c1_i32_987
  let v1241 : BitVec 32 := Scalar.addi v1239 v1240
  v1241.toNat
def k0_dev37 (d0 : Dev nD) : Nat :=
  let c0_i32_1027 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1026 : BitVec 32 := 8#32
  let v1287 : BitVec 32 := Scalar.muli v2 c8_i32_1026
  let v1288 : BitVec 32 := Scalar.addi c0_i32_1027 v1287
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_1028 : BitVec 32 := 4#32
  let v1289 : BitVec 32 := Scalar.muli v45 c4_i32_1028
  let v1290 : BitVec 32 := Scalar.addi v1288 v1289
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_1029 : BitVec 32 := 1#32
  let v1291 : BitVec 32 := Scalar.muli v48 c1_i32_1029
  let v1292 : BitVec 32 := Scalar.addi v1290 v1291
  v1292.toNat
def k0_dev38 (d0 : Dev nD) : Nat :=
  let c0_i32_1071 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1070 : BitVec 32 := 8#32
  let v1340 : BitVec 32 := Scalar.muli v2 c8_i32_1070
  let v1341 : BitVec 32 := Scalar.addi c0_i32_1071 v1340
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_1072 : BitVec 32 := 4#32
  let v1342 : BitVec 32 := Scalar.muli v40 c4_i32_1072
  let v1343 : BitVec 32 := Scalar.addi v1341 v1342
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_1073 : BitVec 32 := 1#32
  let v1344 : BitVec 32 := Scalar.muli v43 c1_i32_1073
  let v1345 : BitVec 32 := Scalar.addi v1343 v1344
  v1345.toNat
def k0_dev39 (d0 : Dev nD) : Nat :=
  let c0_i32_1113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1112 : BitVec 32 := 8#32
  let v1391 : BitVec 32 := Scalar.muli v2 c8_i32_1112
  let v1392 : BitVec 32 := Scalar.addi c0_i32_1113 v1391
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_1114 : BitVec 32 := 4#32
  let v1393 : BitVec 32 := Scalar.muli v45 c4_i32_1114
  let v1394 : BitVec 32 := Scalar.addi v1392 v1393
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_1115 : BitVec 32 := 1#32
  let v1395 : BitVec 32 := Scalar.muli v48 c1_i32_1115
  let v1396 : BitVec 32 := Scalar.addi v1394 v1395
  v1396.toNat
def k0_dev40 (d0 : Dev nD) : Nat :=
  let c0_i32_1157 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1156 : BitVec 32 := 8#32
  let v1444 : BitVec 32 := Scalar.muli v2 c8_i32_1156
  let v1445 : BitVec 32 := Scalar.addi c0_i32_1157 v1444
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_1158 : BitVec 32 := 4#32
  let v1446 : BitVec 32 := Scalar.muli v40 c4_i32_1158
  let v1447 : BitVec 32 := Scalar.addi v1445 v1446
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_1159 : BitVec 32 := 1#32
  let v1448 : BitVec 32 := Scalar.muli v43 c1_i32_1159
  let v1449 : BitVec 32 := Scalar.addi v1447 v1448
  v1449.toNat
def k0_dev41 (d0 : Dev nD) : Nat :=
  let c0_i32_1199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1198 : BitVec 32 := 8#32
  let v1495 : BitVec 32 := Scalar.muli v2 c8_i32_1198
  let v1496 : BitVec 32 := Scalar.addi c0_i32_1199 v1495
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_1200 : BitVec 32 := 4#32
  let v1497 : BitVec 32 := Scalar.muli v45 c4_i32_1200
  let v1498 : BitVec 32 := Scalar.addi v1496 v1497
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_1201 : BitVec 32 := 1#32
  let v1499 : BitVec 32 := Scalar.muli v48 c1_i32_1201
  let v1500 : BitVec 32 := Scalar.addi v1498 v1499
  v1500.toNat
def k0_dev42 (d0 : Dev nD) : Nat :=
  let c0_i32_1243 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1242 : BitVec 32 := 8#32
  let v1548 : BitVec 32 := Scalar.muli v2 c8_i32_1242
  let v1549 : BitVec 32 := Scalar.addi c0_i32_1243 v1548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_1244 : BitVec 32 := 4#32
  let v1550 : BitVec 32 := Scalar.muli v40 c4_i32_1244
  let v1551 : BitVec 32 := Scalar.addi v1549 v1550
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_1245 : BitVec 32 := 1#32
  let v1552 : BitVec 32 := Scalar.muli v43 c1_i32_1245
  let v1553 : BitVec 32 := Scalar.addi v1551 v1552
  v1553.toNat
def k0_dev43 (d0 : Dev nD) : Nat :=
  let c0_i32_1285 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1284 : BitVec 32 := 8#32
  let v1599 : BitVec 32 := Scalar.muli v2 c8_i32_1284
  let v1600 : BitVec 32 := Scalar.addi c0_i32_1285 v1599
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_1286 : BitVec 32 := 4#32
  let v1601 : BitVec 32 := Scalar.muli v45 c4_i32_1286
  let v1602 : BitVec 32 := Scalar.addi v1600 v1601
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_1287 : BitVec 32 := 1#32
  let v1603 : BitVec 32 := Scalar.muli v48 c1_i32_1287
  let v1604 : BitVec 32 := Scalar.addi v1602 v1603
  v1604.toNat
def k0_dev44 (d0 : Dev nD) : Nat :=
  let c0_i32_1329 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1328 : BitVec 32 := 8#32
  let v1652 : BitVec 32 := Scalar.muli v2 c8_i32_1328
  let v1653 : BitVec 32 := Scalar.addi c0_i32_1329 v1652
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_1330 : BitVec 32 := 4#32
  let v1654 : BitVec 32 := Scalar.muli v40 c4_i32_1330
  let v1655 : BitVec 32 := Scalar.addi v1653 v1654
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_1331 : BitVec 32 := 1#32
  let v1656 : BitVec 32 := Scalar.muli v43 c1_i32_1331
  let v1657 : BitVec 32 := Scalar.addi v1655 v1656
  v1657.toNat
def k0_dev45 (d0 : Dev nD) : Nat :=
  let c0_i32_1371 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1370 : BitVec 32 := 8#32
  let v1703 : BitVec 32 := Scalar.muli v2 c8_i32_1370
  let v1704 : BitVec 32 := Scalar.addi c0_i32_1371 v1703
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_1372 : BitVec 32 := 4#32
  let v1705 : BitVec 32 := Scalar.muli v45 c4_i32_1372
  let v1706 : BitVec 32 := Scalar.addi v1704 v1705
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_1373 : BitVec 32 := 1#32
  let v1707 : BitVec 32 := Scalar.muli v48 c1_i32_1373
  let v1708 : BitVec 32 := Scalar.addi v1706 v1707
  v1708.toNat
def k0_dev46 (d0 : Dev nD) : Nat :=
  let c0_i32_1415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1414 : BitVec 32 := 8#32
  let v1756 : BitVec 32 := Scalar.muli v2 c8_i32_1414
  let v1757 : BitVec 32 := Scalar.addi c0_i32_1415 v1756
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_1416 : BitVec 32 := 4#32
  let v1758 : BitVec 32 := Scalar.muli v40 c4_i32_1416
  let v1759 : BitVec 32 := Scalar.addi v1757 v1758
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_1417 : BitVec 32 := 1#32
  let v1760 : BitVec 32 := Scalar.muli v43 c1_i32_1417
  let v1761 : BitVec 32 := Scalar.addi v1759 v1760
  v1761.toNat
def k0_dev47 (d0 : Dev nD) : Nat :=
  let c0_i32_1457 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1456 : BitVec 32 := 8#32
  let v1807 : BitVec 32 := Scalar.muli v2 c8_i32_1456
  let v1808 : BitVec 32 := Scalar.addi c0_i32_1457 v1807
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_1458 : BitVec 32 := 4#32
  let v1809 : BitVec 32 := Scalar.muli v45 c4_i32_1458
  let v1810 : BitVec 32 := Scalar.addi v1808 v1809
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_1459 : BitVec 32 := 1#32
  let v1811 : BitVec 32 := Scalar.muli v48 c1_i32_1459
  let v1812 : BitVec 32 := Scalar.addi v1810 v1811
  v1812.toNat
def k0_dev48 (d0 : Dev nD) : Nat :=
  let c0_i32_1501 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1500 : BitVec 32 := 8#32
  let v1860 : BitVec 32 := Scalar.muli v2 c8_i32_1500
  let v1861 : BitVec 32 := Scalar.addi c0_i32_1501 v1860
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_1502 : BitVec 32 := 4#32
  let v1862 : BitVec 32 := Scalar.muli v40 c4_i32_1502
  let v1863 : BitVec 32 := Scalar.addi v1861 v1862
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_1503 : BitVec 32 := 1#32
  let v1864 : BitVec 32 := Scalar.muli v43 c1_i32_1503
  let v1865 : BitVec 32 := Scalar.addi v1863 v1864
  v1865.toNat
def k0_dev49 (d0 : Dev nD) : Nat :=
  let c0_i32_1543 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1542 : BitVec 32 := 8#32
  let v1911 : BitVec 32 := Scalar.muli v2 c8_i32_1542
  let v1912 : BitVec 32 := Scalar.addi c0_i32_1543 v1911
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_1544 : BitVec 32 := 4#32
  let v1913 : BitVec 32 := Scalar.muli v45 c4_i32_1544
  let v1914 : BitVec 32 := Scalar.addi v1912 v1913
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_1545 : BitVec 32 := 1#32
  let v1915 : BitVec 32 := Scalar.muli v48 c1_i32_1545
  let v1916 : BitVec 32 := Scalar.addi v1914 v1915
  v1916.toNat
def k0_dev50 (d0 : Dev nD) : Nat :=
  let c0_i32_1587 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1586 : BitVec 32 := 8#32
  let v1964 : BitVec 32 := Scalar.muli v2 c8_i32_1586
  let v1965 : BitVec 32 := Scalar.addi c0_i32_1587 v1964
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_1588 : BitVec 32 := 4#32
  let v1966 : BitVec 32 := Scalar.muli v40 c4_i32_1588
  let v1967 : BitVec 32 := Scalar.addi v1965 v1966
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_1589 : BitVec 32 := 1#32
  let v1968 : BitVec 32 := Scalar.muli v43 c1_i32_1589
  let v1969 : BitVec 32 := Scalar.addi v1967 v1968
  v1969.toNat
def k0_dev51 (d0 : Dev nD) : Nat :=
  let c0_i32_1629 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1628 : BitVec 32 := 8#32
  let v2015 : BitVec 32 := Scalar.muli v2 c8_i32_1628
  let v2016 : BitVec 32 := Scalar.addi c0_i32_1629 v2015
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_1630 : BitVec 32 := 4#32
  let v2017 : BitVec 32 := Scalar.muli v45 c4_i32_1630
  let v2018 : BitVec 32 := Scalar.addi v2016 v2017
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_1631 : BitVec 32 := 1#32
  let v2019 : BitVec 32 := Scalar.muli v48 c1_i32_1631
  let v2020 : BitVec 32 := Scalar.addi v2018 v2019
  v2020.toNat
def k0_dev52 (d0 : Dev nD) : Nat :=
  let c0_i32_1673 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1672 : BitVec 32 := 8#32
  let v2068 : BitVec 32 := Scalar.muli v2 c8_i32_1672
  let v2069 : BitVec 32 := Scalar.addi c0_i32_1673 v2068
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_1674 : BitVec 32 := 4#32
  let v2070 : BitVec 32 := Scalar.muli v40 c4_i32_1674
  let v2071 : BitVec 32 := Scalar.addi v2069 v2070
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_1675 : BitVec 32 := 1#32
  let v2072 : BitVec 32 := Scalar.muli v43 c1_i32_1675
  let v2073 : BitVec 32 := Scalar.addi v2071 v2072
  v2073.toNat
def k0_dev53 (d0 : Dev nD) : Nat :=
  let c0_i32_1715 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1714 : BitVec 32 := 8#32
  let v2119 : BitVec 32 := Scalar.muli v2 c8_i32_1714
  let v2120 : BitVec 32 := Scalar.addi c0_i32_1715 v2119
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_1716 : BitVec 32 := 4#32
  let v2121 : BitVec 32 := Scalar.muli v45 c4_i32_1716
  let v2122 : BitVec 32 := Scalar.addi v2120 v2121
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_1717 : BitVec 32 := 1#32
  let v2123 : BitVec 32 := Scalar.muli v48 c1_i32_1717
  let v2124 : BitVec 32 := Scalar.addi v2122 v2123
  v2124.toNat
def k0_dev54 (d0 : Dev nD) : Nat :=
  let c0_i32_1759 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1758 : BitVec 32 := 8#32
  let v2172 : BitVec 32 := Scalar.muli v2 c8_i32_1758
  let v2173 : BitVec 32 := Scalar.addi c0_i32_1759 v2172
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_1760 : BitVec 32 := 4#32
  let v2174 : BitVec 32 := Scalar.muli v40 c4_i32_1760
  let v2175 : BitVec 32 := Scalar.addi v2173 v2174
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_1761 : BitVec 32 := 1#32
  let v2176 : BitVec 32 := Scalar.muli v43 c1_i32_1761
  let v2177 : BitVec 32 := Scalar.addi v2175 v2176
  v2177.toNat
def k0_dev55 (d0 : Dev nD) : Nat :=
  let c0_i32_1801 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1800 : BitVec 32 := 8#32
  let v2223 : BitVec 32 := Scalar.muli v2 c8_i32_1800
  let v2224 : BitVec 32 := Scalar.addi c0_i32_1801 v2223
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_1802 : BitVec 32 := 4#32
  let v2225 : BitVec 32 := Scalar.muli v45 c4_i32_1802
  let v2226 : BitVec 32 := Scalar.addi v2224 v2225
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_1803 : BitVec 32 := 1#32
  let v2227 : BitVec 32 := Scalar.muli v48 c1_i32_1803
  let v2228 : BitVec 32 := Scalar.addi v2226 v2227
  v2228.toNat
def k0_dev56 (d0 : Dev nD) : Nat :=
  let c0_i32_1845 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1844 : BitVec 32 := 8#32
  let v2276 : BitVec 32 := Scalar.muli v2 c8_i32_1844
  let v2277 : BitVec 32 := Scalar.addi c0_i32_1845 v2276
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_1846 : BitVec 32 := 4#32
  let v2278 : BitVec 32 := Scalar.muli v40 c4_i32_1846
  let v2279 : BitVec 32 := Scalar.addi v2277 v2278
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_1847 : BitVec 32 := 1#32
  let v2280 : BitVec 32 := Scalar.muli v43 c1_i32_1847
  let v2281 : BitVec 32 := Scalar.addi v2279 v2280
  v2281.toNat
def k0_dev57 (d0 : Dev nD) : Nat :=
  let c0_i32_1887 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1886 : BitVec 32 := 8#32
  let v2327 : BitVec 32 := Scalar.muli v2 c8_i32_1886
  let v2328 : BitVec 32 := Scalar.addi c0_i32_1887 v2327
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_1888 : BitVec 32 := 4#32
  let v2329 : BitVec 32 := Scalar.muli v45 c4_i32_1888
  let v2330 : BitVec 32 := Scalar.addi v2328 v2329
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_1889 : BitVec 32 := 1#32
  let v2331 : BitVec 32 := Scalar.muli v48 c1_i32_1889
  let v2332 : BitVec 32 := Scalar.addi v2330 v2331
  v2332.toNat
def k0_dev58 (d0 : Dev nD) : Nat :=
  let c0_i32_1931 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1930 : BitVec 32 := 8#32
  let v2380 : BitVec 32 := Scalar.muli v2 c8_i32_1930
  let v2381 : BitVec 32 := Scalar.addi c0_i32_1931 v2380
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_1932 : BitVec 32 := 4#32
  let v2382 : BitVec 32 := Scalar.muli v40 c4_i32_1932
  let v2383 : BitVec 32 := Scalar.addi v2381 v2382
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_1933 : BitVec 32 := 1#32
  let v2384 : BitVec 32 := Scalar.muli v43 c1_i32_1933
  let v2385 : BitVec 32 := Scalar.addi v2383 v2384
  v2385.toNat
def k0_dev59 (d0 : Dev nD) : Nat :=
  let c0_i32_1973 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1972 : BitVec 32 := 8#32
  let v2431 : BitVec 32 := Scalar.muli v2 c8_i32_1972
  let v2432 : BitVec 32 := Scalar.addi c0_i32_1973 v2431
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_1974 : BitVec 32 := 4#32
  let v2433 : BitVec 32 := Scalar.muli v45 c4_i32_1974
  let v2434 : BitVec 32 := Scalar.addi v2432 v2433
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_1975 : BitVec 32 := 1#32
  let v2435 : BitVec 32 := Scalar.muli v48 c1_i32_1975
  let v2436 : BitVec 32 := Scalar.addi v2434 v2435
  v2436.toNat
def k0_dev60 (d0 : Dev nD) : Nat :=
  let c0_i32_2017 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2016 : BitVec 32 := 8#32
  let v2484 : BitVec 32 := Scalar.muli v2 c8_i32_2016
  let v2485 : BitVec 32 := Scalar.addi c0_i32_2017 v2484
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_2018 : BitVec 32 := 4#32
  let v2486 : BitVec 32 := Scalar.muli v40 c4_i32_2018
  let v2487 : BitVec 32 := Scalar.addi v2485 v2486
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_2019 : BitVec 32 := 1#32
  let v2488 : BitVec 32 := Scalar.muli v43 c1_i32_2019
  let v2489 : BitVec 32 := Scalar.addi v2487 v2488
  v2489.toNat
def k0_dev61 (d0 : Dev nD) : Nat :=
  let c0_i32_2082 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2081 : BitVec 32 := 8#32
  let v2561 : BitVec 32 := Scalar.muli v2 c8_i32_2081
  let v2562 : BitVec 32 := Scalar.addi c0_i32_2082 v2561
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_2083 : BitVec 32 := 4#32
  let v2563 : BitVec 32 := Scalar.muli v40 c4_i32_2083
  let v2564 : BitVec 32 := Scalar.addi v2562 v2563
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_2084 : BitVec 32 := 1#32
  let v2565 : BitVec 32 := Scalar.muli v43 c1_i32_2084
  let v2566 : BitVec 32 := Scalar.addi v2564 v2565
  v2566.toNat
def k0_dev62 (d0 : Dev nD) : Nat :=
  let c0_i32_2147 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2146 : BitVec 32 := 8#32
  let v2638 : BitVec 32 := Scalar.muli v2 c8_i32_2146
  let v2639 : BitVec 32 := Scalar.addi c0_i32_2147 v2638
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_2148 : BitVec 32 := 4#32
  let v2640 : BitVec 32 := Scalar.muli v40 c4_i32_2148
  let v2641 : BitVec 32 := Scalar.addi v2639 v2640
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_2149 : BitVec 32 := 1#32
  let v2642 : BitVec 32 := Scalar.muli v43 c1_i32_2149
  let v2643 : BitVec 32 := Scalar.addi v2641 v2642
  v2643.toNat
def k0_dev63 (d0 : Dev nD) : Nat :=
  let c0_i32_2212 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2211 : BitVec 32 := 8#32
  let v2715 : BitVec 32 := Scalar.muli v2 c8_i32_2211
  let v2716 : BitVec 32 := Scalar.addi c0_i32_2212 v2715
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_20 : BitVec 32 := 4#32
  let v39 : BitVec 1 := Scalar.cmpi .slt v26 c4_i32_20
  let c0_i32_21 : BitVec 32 := 0#32
  let c1_i32_22 : BitVec 32 := 1#32
  let v40 : BitVec 32 := Scalar.select v39 c0_i32_21 c1_i32_22
  let c4_i32_2213 : BitVec 32 := 4#32
  let v2717 : BitVec 32 := Scalar.muli v40 c4_i32_2213
  let v2718 : BitVec 32 := Scalar.addi v2716 v2717
  let c4_i32_23 : BitVec 32 := 4#32
  let v41 : BitVec 1 := Scalar.cmpi .slt v26 c4_i32_23
  let c7_i32_24 : BitVec 32 := 7#32
  let v42 : BitVec 32 := Scalar.subi c7_i32_24 v26
  let v43 : BitVec 32 := Scalar.select v41 v26 v42
  let c1_i32_2214 : BitVec 32 := 1#32
  let v2719 : BitVec 32 := Scalar.muli v43 c1_i32_2214
  let v2720 : BitVec 32 := Scalar.addi v2718 v2719
  v2720.toNat
def k0_dev64 (d0 : Dev nD) : Nat :=
  let c0_i32_2297 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2296 : BitVec 32 := 8#32
  let v2815 : BitVec 32 := Scalar.muli v2 c8_i32_2296
  let v2816 : BitVec 32 := Scalar.addi c0_i32_2297 v2815
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_2298 : BitVec 32 := 4#32
  let v2817 : BitVec 32 := Scalar.muli v45 c4_i32_2298
  let v2818 : BitVec 32 := Scalar.addi v2816 v2817
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_2299 : BitVec 32 := 1#32
  let v2819 : BitVec 32 := Scalar.muli v48 c1_i32_2299
  let v2820 : BitVec 32 := Scalar.addi v2818 v2819
  v2820.toNat
def k0_dev65 (d0 : Dev nD) : Nat :=
  let c0_i32_2361 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2360 : BitVec 32 := 8#32
  let v2891 : BitVec 32 := Scalar.muli v2 c8_i32_2360
  let v2892 : BitVec 32 := Scalar.addi c0_i32_2361 v2891
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_2362 : BitVec 32 := 4#32
  let v2893 : BitVec 32 := Scalar.muli v45 c4_i32_2362
  let v2894 : BitVec 32 := Scalar.addi v2892 v2893
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_2363 : BitVec 32 := 1#32
  let v2895 : BitVec 32 := Scalar.muli v48 c1_i32_2363
  let v2896 : BitVec 32 := Scalar.addi v2894 v2895
  v2896.toNat
def k0_dev66 (d0 : Dev nD) : Nat :=
  let c0_i32_2425 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2424 : BitVec 32 := 8#32
  let v2967 : BitVec 32 := Scalar.muli v2 c8_i32_2424
  let v2968 : BitVec 32 := Scalar.addi c0_i32_2425 v2967
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_2426 : BitVec 32 := 4#32
  let v2969 : BitVec 32 := Scalar.muli v45 c4_i32_2426
  let v2970 : BitVec 32 := Scalar.addi v2968 v2969
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_2427 : BitVec 32 := 1#32
  let v2971 : BitVec 32 := Scalar.muli v48 c1_i32_2427
  let v2972 : BitVec 32 := Scalar.addi v2970 v2971
  v2972.toNat
def k0_dev67 (d0 : Dev nD) : Nat :=
  let c0_i32_2489 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2488 : BitVec 32 := 8#32
  let v3043 : BitVec 32 := Scalar.muli v2 c8_i32_2488
  let v3044 : BitVec 32 := Scalar.addi c0_i32_2489 v3043
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v13 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c8_i32_12 : BitVec 32 := 8#32
  let v27 : BitVec 32 := Scalar.addi v15 c8_i32_12
  let c1_i32_13 : BitVec 32 := 1#32
  let v28 : BitVec 32 := Scalar.subi v27 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_25 : BitVec 32 := 4#32
  let v44 : BitVec 1 := Scalar.cmpi .slt v38 c4_i32_25
  let c0_i32_26 : BitVec 32 := 0#32
  let c1_i32_27 : BitVec 32 := 1#32
  let v45 : BitVec 32 := Scalar.select v44 c0_i32_26 c1_i32_27
  let c4_i32_2490 : BitVec 32 := 4#32
  let v3045 : BitVec 32 := Scalar.muli v45 c4_i32_2490
  let v3046 : BitVec 32 := Scalar.addi v3044 v3045
  let c4_i32_28 : BitVec 32 := 4#32
  let v46 : BitVec 1 := Scalar.cmpi .slt v38 c4_i32_28
  let c7_i32_29 : BitVec 32 := 7#32
  let v47 : BitVec 32 := Scalar.subi c7_i32_29 v38
  let v48 : BitVec 32 := Scalar.select v46 v38 v47
  let c1_i32_2491 : BitVec 32 := 1#32
  let v3047 : BitVec 32 := Scalar.muli v48 c1_i32_2491
  let v3048 : BitVec 32 := Scalar.addi v3046 v3047
  v3048.toNat
-- ==== ReferenceIdeal.lean ====
abbrev S2x16384x2048 : Shape := ⟨3, ![2, 16384, 2048]⟩
abbrev S_ : Shape := ⟨0, ![]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S_, .f32⟩
  | .hbm, ⟨2, _⟩ => ⟨S16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Geo.lean ====
/-
# The ring: devices, blocks and chunks, and the closed forms of the program's offsets

The mesh is (2, 2, 4). The eight devices with one `x` coordinate form a ring; a device's place on it is `pos`. Device
`d` talks to its partner (the other `x` coordinate, the same place) and to its two neighbours on the ring. A direction
is a `Bool`: `true` sends to the right neighbour, `false` to the left one. A transfer on the ring is a direction, a
step `s : Fin 4` and a chunk `j : Fin 8`; at the last step only half the chunks travel each way.
-/
module

public import proofs.«01_k».proof.Proof.Gen.KernelIdeal

@[expose] public section

set_option maxRecDepth 16384

namespace Cert.K

open Cert.KernelIdeal Cert.KernelIdeal.Gen
open Idealize.ShloMosaic

/-! ## Devices -/

/-- A device's place on its ring, from its number within the eight; the map is its own inverse. -/
def fold (k : ℕ) : ℕ := if k < 4 then k else 11 - k

/-- The device at place `k` on the ring of `d`. -/
def onRing (d : Dev nD) (k : ℕ) : Dev nD := Fin.ofNat 16 (8 * (d.val / 8) + fold (k % 8))

/-- The place of `d` on its ring. -/
def pos (d : Dev nD) : ℕ := fold (d.val % 8)

/-- The `x` coordinate of `d`: the half of the columns it ends with. -/
def xco (d : Dev nD) : ℕ := d.val / 8

/-- The device at the same place of the other ring. -/
def ptn (d : Dev nD) : Dev nD := Fin.ofNat 16 (d.val + 8)

/-- The neighbour that a transfer in direction `b` goes to. -/
def nb (b : Bool) (d : Dev nD) : Dev nD := onRing d (pos d + if b then 1 else 7)

/-- The partner's partner is the device. -/
theorem ptn_ptn (d : Dev nD) : ptn (ptn d) = d := by revert d; decide
/-- One step back and one forth on the ring return to the device. -/
theorem nb_nb (b : Bool) (d : Dev nD) : nb b (nb (!b) d) = d := by revert b d; decide
/-- One step forth and one back return to the device. -/
theorem nb_nb' (b : Bool) (d : Dev nD) : nb (!b) (nb b d) = d := by revert b d; decide
/-- A ring has eight places. -/
theorem pos_lt (d : Dev nD) : pos d < 8 := by revert d; decide
/-- There are two coordinates. -/
theorem xco_lt (d : Dev nD) : xco d < 2 := by revert d; decide
/-- The partner has the same place on its ring. -/
theorem pos_ptn (d : Dev nD) : pos (ptn d) = pos d := by revert d; decide
/-- The partner has the other coordinate. -/
theorem xco_ptn (d : Dev nD) : xco (ptn d) = 1 - xco d := by revert d; decide
/-- Neighbours are on the same ring. -/
theorem onRing_nb (b : Bool) (d : Dev nD) (k : Fin 8) : onRing (nb b d) k.val = onRing d k.val := by revert b d k; decide
/-- The device at the place of `d` is `d`. -/
theorem onRing_pos (d : Dev nD) : onRing d (pos d) = d := by revert d; decide
/-- The place of the device at place `k` is `k`. -/
theorem pos_onRing (d : Dev nD) (k : Fin 8) : pos (onRing d k.val) = k.val := by revert d k; decide
/-- All devices of a ring have one coordinate. -/
theorem xco_onRing (d : Dev nD) (k : Fin 8) : xco (onRing d k.val) = xco d := by revert d k; decide

/-! ## Transfers on the ring -/

/-- Whether chunk `j` travels in direction `b` at step `s`: all do at the first three steps, half of them at the last. -/
def act (b : Bool) (s : Fin 4) (j : Fin 8) : Bool := decide (s.val < 3) || (b == decide (j.val < 4))

/-- The block device `d` sends in direction `b` at step `s`. -/
def blk (b : Bool) (s : Fin 4) (d : Dev nD) : ℕ := (pos d + if b then 8 - s.val else s.val) % 8

/-- The block device `d` gets in direction `b` at step `s`. -/
def rblk (b : Bool) (s : Fin 4) (d : Dev nD) : ℕ := (pos d + if b then 7 - s.val else s.val + 1) % 8

/-- A sent block is one of eight. -/
theorem blk_lt (b : Bool) (s : Fin 4) (d : Dev nD) : blk b s d < 8 := Nat.mod_lt _ (by decide)
/-- A received block is one of eight. -/
theorem rblk_lt (b : Bool) (s : Fin 4) (d : Dev nD) : rblk b s d < 8 := Nat.mod_lt _ (by decide)
/-- What a device sends is what its neighbour gets. -/
theorem rblk_nb (b : Bool) (s : Fin 4) (d : Dev nD) : rblk b s (nb b d) = blk b s d := by revert b s d; decide
/-- What the neighbour on the other side sends is what a device gets. -/
theorem blk_nb (b : Bool) (s : Fin 4) (d : Dev nD) : blk b s (nb (!b) d) = rblk b s d := by revert b s d; decide
/-- What a device got at one step it sends at the next. -/
theorem blk_succ (b : Bool) (d : Dev nD) (s s' : Fin 4) (h : s'.val = s.val + 1) : blk b s' d = rblk b s d := by
  revert b d s s'; decide
/-- At the first step a device sends its own block. -/
theorem blk_zero (b : Bool) (d : Dev nD) : blk b 0 d = pos d := by revert b d; decide

/-! ## The program's addresses -/

/-- The words of a step and of a chunk's first row. -/
abbrev wS (s : Fin 4) : BitVec 32 := BitVec.ofNat 32 s.val
abbrev wJ (j : Fin 8) : BitVec 32 := BitVec.ofNat 32 (256 * j.val)

/-- Where the rows a transfer of direction `b` sends lie in the sender's result, and where those it brings lie. -/
def offS (b : Bool) (d : Dev nD) (s : Fin 4) (j : Fin 8) : Fin 2 → ℕ := if b then k0_off3 d (wS s) (wJ j) else k0_off4 d (wS s) (wJ j)
def offR (b : Bool) (d : Dev nD) (s : Fin 4) (j : Fin 8) : Fin 2 → ℕ := if b then k0_off6 d (wS s) (wJ j) else k0_off7 d (wS s) (wJ j)

/-- A sent chunk's offset, in closed form. -/
theorem offS_eq (b : Bool) (d : Dev nD) (s : Fin 4) (j : Fin 8) : offS b d s j = ![2048 * blk b s d + 256 * j.val, 0] := by
  revert b d s j; decide +kernel
/-- An arriving chunk's offset, in closed form. -/
theorem offR_eq (b : Bool) (d : Dev nD) (s : Fin 4) (j : Fin 8) : offR b d s j = ![2048 * rblk b s d + 256 * j.val, 0] := by
  revert b d s j; decide +kernel
/-- The offset of a chunk sent to the partner, in closed form: the partner's columns. -/
theorem off1_eq (d : Dev nD) (j : Fin 8) : k0_off1 d (wJ j) = ![0, 2048 * pos d + 256 * j.val, 1024 * (1 - xco d)] := by
  revert d j; decide +kernel
/-- The offset of the device's own rows, in closed form: its own columns. -/
theorem off2_eq (d : Dev nD) : k0_off2 d = ![0, 2048 * pos d, 1024 * xco d] := by revert d; decide +kernel
/-- The offset of the device's own block in the result, in closed form. -/
theorem off5_eq (d : Dev nD) : k0_off5 d = ![2048 * pos d, 0] := by revert d; decide +kernel

/-- The program's device numbers: the partner, the left and the right neighbour. -/
def dP (d : Dev nD) : Dev nD := ⟨k0_dev1 d, k0_dev1_lt d⟩
def dN (b : Bool) (d : Dev nD) : Dev nD := if b then ⟨k0_dev3 d, k0_dev3_lt d⟩ else ⟨k0_dev2 d, k0_dev2_lt d⟩

/-- The program's first device number is the partner's. -/
theorem dP_eq (d : Dev nD) : dP d = ptn d := by revert d; decide +kernel
/-- The program's other device numbers are the neighbours'. -/
theorem dN_eq (b : Bool) (d : Dev nD) : dN b d = nb b d := by revert b d; decide +kernel

/-- A sent chunk lies in the result. -/
theorem offS_inb (b : Bool) (d : Dev nD) (s : Fin 4) (j : Fin 8) (a : Fin 2) :
    offS b d s j a + S256x1024.size a ≤ S16384x1024.size a := by
  rw [offS_eq]; have := blk_lt b s d; have := j.isLt
  match a with
  | 0 => show 2048 * blk b s d + 256 * j.val + 256 ≤ 16384; omega
  | 1 => show 0 + 1024 ≤ 1024; omega
/-- An arriving chunk lies in the result. -/
theorem offR_inb (b : Bool) (d : Dev nD) (s : Fin 4) (j : Fin 8) (a : Fin 2) :
    offR b d s j a + S256x1024.size a ≤ S16384x1024.size a := by
  rw [offR_eq]; have := rblk_lt b s d; have := j.isLt
  match a with
  | 0 => show 2048 * rblk b s d + 256 * j.val + 256 ≤ 16384; omega
  | 1 => show 0 + 1024 ≤ 1024; omega
/-- A slot lies in the landing buffer. -/
theorem slot_inb (j : Fin 8) (a : Fin 3) : (![j.val, 0, 0] : Fin 3 → ℕ) a + S1x256x1024.size a ≤ S8x256x1024.size a := by
  have := j.isLt
  match a with
  | 0 => show j.val + 1 ≤ 8; omega
  | 1 => show 0 + 256 ≤ 256; omega
  | 2 => show 0 + 1024 ≤ 1024; omega
/-- A chunk lies in the buffer of the sums. -/
theorem row_inb (j : Fin 8) (a : Fin 2) : (![256 * j.val, 0] : Fin 2 → ℕ) a + S256x1024.size a ≤ S2048x1024.size a := by
  have := j.isLt
  match a with
  | 0 => show 256 * j.val + 256 ≤ 2048; omega
  | 1 => show 0 + 1024 ≤ 1024; omega

end Cert.K
-- ==== Proof.Prog.lean ====
/-
# The kernel's body as loops

The printed body is one long line of effects. Here it is written as loops over chunks, steps and directions, with the
memory windows and semaphores named; that the two are one program is by unfolding.
-/
module

public import proofs.«01_k».proof.Proof.Geo
public import proofs.«01_k».proof.Proof.Gen.KernelIdeal.Skeleton
public import proofs.«01_k».proof.Proof.Gen.KernelIdeal.Launch

@[expose] public section

set_option maxRecDepth 65536

noncomputable section

namespace Cert.K

open Cert.KernelIdeal Cert.KernelIdeal.Gen
open Idealize.ShloMosaic Idealize.ShloMosaic.TcCoe Idealize.SL.Sem

variable {F : FTy → Type} [FloatOps F]

/-! ## The buffers and their windows -/

/-- The device's block of `x`, its result, the landing slots for the partner's rows, its own rows, their sums. -/
abbrev xM : Memref sig .tc .hbm S1x16384x2048 .f32 := Memref.whole main_arg0
abbrev oM : Memref sig .tc .hbm S16384x1024 .f32 := Memref.whole main_v1
abbrev pM : Memref sig .tc .vmem S8x256x1024 .f32 := Memref.whole cc0_scratch0
abbrev lM : Memref sig .tc .vmem S2048x1024 .f32 := Memref.whole cc0_scratch1
abbrev wM : Memref sig .tc .vmem S2048x1024 .f32 := Memref.whole cc0_scratch2

/-- The rows of `x` sent to the partner as its chunk `j`; the rows kept. -/
abbrev xRow (d : Dev nD) (j : Fin 8) : Memref sig .tc .hbm S256x1024 .f32 :=
  (xM.slice (Rect.unit (s := S1x16384x2048) (k0_off1 d (wJ j)) S1x256x1024.size (k0_off1_inb d j)) (fun _ => rfl)).squeeze S256x1024 squeezes_S1x256x1024_S256x1024
abbrev xOwn (d : Dev nD) : Memref sig .tc .hbm S2048x1024 .f32 :=
  (xM.slice (Rect.unit (s := S1x16384x2048) (k0_off2 d) S1x2048x1024.size (k0_off2_inb d)) (fun _ => rfl)).squeeze S2048x1024 squeezes_S1x2048x1024_S2048x1024
/-- Landing slot `j`. -/
abbrev pSlot (j : Fin 8) : Memref sig .tc .vmem S256x1024 .f32 :=
  (pM.slice (Rect.unit (s := S8x256x1024) ![j.val, 0, 0] S1x256x1024.size (slot_inb j)) (fun _ => rfl)).squeeze S256x1024 squeezes_S1x256x1024_S256x1024
/-- Chunk `j` of the sums. -/
abbrev wRow (j : Fin 8) : Memref sig .tc .vmem S256x1024 .f32 :=
  wM.slice (Rect.unit (s := S2048x1024) ![256 * j.val, 0] S256x1024.size (row_inb j)) (fun _ => rfl)
/-- The rows of the result a transfer sends from (and, at the same place of the neighbour's result, to), and the rows
    one brings. -/
abbrev oS (b : Bool) (d : Dev nD) (s : Fin 4) (j : Fin 8) : Memref sig .tc .hbm S256x1024 .f32 :=
  oM.slice (Rect.unit (s := S16384x1024) (offS b d s j) S256x1024.size (offS_inb b d s j)) (fun _ => rfl)
abbrev oR (b : Bool) (d : Dev nD) (s : Fin 4) (j : Fin 8) : Memref sig .tc .hbm S256x1024 .f32 :=
  oM.slice (Rect.unit (s := S16384x1024) (offR b d s j) S256x1024.size (offR_inb b d s j)) (fun _ => rfl)
/-- The device's own block of its result. -/
abbrev oOwn (d : Dev nD) : Memref sig .tc .hbm S2048x1024 .f32 :=
  oM.slice (Rect.unit (s := S16384x1024) (k0_off5 d) S2048x1024.size (k0_off5_inb d)) (fun _ => rfl)

/-! ## The semaphores -/

/-- The transfers between devices: to the partner, and around the ring. -/
inductive Tr
  | p1 (j : Fin 8)
  | rg (b : Bool) (s : Fin 4) (j : Fin 8)
deriving DecidableEq

/-- The kernel's semaphore cells on one device, the barrier's left out: the two local copies', and each transfer's at its
    sender and at its receiver. -/
inductive Ck
  | loc
  | out
  | snd (t : Tr)
  | rcv (t : Tr)
deriving DecidableEq

/-- A cell's number. -/
def Ck.num : Ck → ℕ
  | .loc => 16
  | .out => 17
  | .snd (.p1 j) => j.val
  | .rcv (.p1 j) => 8 + j.val
  | .snd (.rg b s j) => (if b then 18 else 82) + 8 * s.val + j.val
  | .rcv (.rg b s j) => (if b then 50 else 114) + 8 * s.val + j.val

/-- There are 146 numbered cells. -/
theorem Ck.num_lt (k : Ck) : k.num < 146 := by
  rcases k with _ | _ | t | t
  · show 16 < 146; omega
  · show 17 < 146; omega
  all_goals
    rcases t with j | ⟨b, s, j⟩
    · have := j.isLt; simp only [Ck.num]; omega
    · have := j.isLt; have := s.isLt; cases b <;> simp only [Ck.num, if_true, Bool.false_eq_true, if_false] <;> omega

/-- A cell's semaphore. -/
def Ck.sem (k : Ck) : DmaSem sig := ⟨k.num, k.num_lt⟩

/-- The runtime's barrier semaphore. -/
abbrev barS : Sem sig := (SemArray.scalar (sig.barrier 0 rfl) : Sems sig S_).sem

/-! ## The program -/

abbrev PE (F : FTy → Type) : Type → Type := TpuEff nD τ sig (Elt F) Λ₀ .tc

/-- One program after another, along a list. -/
def seqL {α : Type} : List α → (α → Prog (PE F) PUnit) → Prog (PE F) PUnit
  | [], _ => pure ⟨⟩
  | a :: l, f => f a >>= fun _ => seqL l f

abbrev fin8 : List (Fin 8) := [0, 1, 2, 3, 4, 5, 6, 7]
abbrev dirs : List Bool := [true, false]

/-- Tell the partner, the left and the right neighbour; wait for the three that tell this device. -/
def pBar (d : Dev nD) : Prog (PE F) PUnit := do
  semSignalWord (dP d) barS 1#32
  semSignalWord (dN false d) barS 1#32
  semSignalWord (dN true d) barS 1#32
  semWaitWord barS 3#32

/-- Send the partner its chunk `j`. -/
def pP1 (d : Dev nD) (j : Fin 8) : Prog (PE F) PUnit :=
  Prog.lift (.enqueueDma (xRow d j) (.remote (Dev.tc (dP d)) (pSlot j) (.dma (Ck.snd (.p1 j)).sem)) (.dma (Ck.rcv (.p1 j)).sem)
    ((View.wordExact_bits rfl).reshape _ _) ((View.wordExact_bits rfl).reshape _ _) ⟨⟨rfl, Or.inl rfl⟩, trivial⟩)

/-- Fetch the device's own rows. -/
def pLoc (d : Dev nD) : Prog (PE F) PUnit := do
  Prog.lift (.enqueueDma (xOwn d) (.here lM) (.dma Ck.loc.sem) ((View.wordExact_bits rfl).reshape _ _) (Memref.isWhole_whole _).wordExact ⟨Or.inl rfl, trivial⟩)
  Prog.lift (.waitDma2 Ck.loc.sem (xOwn d) lM ((View.wordExact_bits rfl).reshape _ _) (Memref.isWhole_whole _).wordExact)

/-- The sum of chunk `j` of the device's rows and of the partner's. -/
def payF (v : Vec F S256x1024 .f32) (v' : Vec F S1x256x1024 .f32) : FVec F S256x1024 .f32 := k0_pay1 v v'

/-- Wait for the partner's chunk `j`, add, keep the sum. -/
def pAdd (d : Dev nD) (j : Fin 8) : Prog (PE F) PUnit := do
  Prog.lift (.waitDma2 (Ck.rcv (.p1 j)).sem (xRow d j) (pSlot j) ((View.wordExact_bits rfl).reshape _ _) ((View.wordExact_bits rfl).reshape _ _))
  let v : Vec F S256x1024 .f32 ← Prog.lift (.load lM (Rect.unit (s := S2048x1024) ![256 * j.val, 0] S256x1024.size (row_inb j)).toLoadRect (View.loadsAt_vmem h_S256x1024))
  let v' : Vec F S1x256x1024 .f32 ← Prog.lift (.load pM (Rect.unit (s := S8x256x1024) ![j.val, 0, 0] S1x256x1024.size (slot_inb j)).toLoadRect (View.loadsAt_vmem h_S1x256x1024))
  let _ : Vec F S256x1024 .f32 ← Prog.lift (.load wM (Rect.unit (s := S2048x1024) ![256 * j.val, 0] S256x1024.size (row_inb j)).toLoadRect (View.loadsAt_vmem h_S256x1024))
  Prog.lift (.store wM (Rect.unit (s := S2048x1024) ![256 * j.val, 0] S256x1024.size (row_inb j)) (payF v v') Finset.univ (View.stores_vmem_bits_univ h_S256x1024 rfl) (.inl rfl))

/-- Send the sum of chunk `j` in direction `b`. -/
def pFirst (d : Dev nD) (j : Fin 8) (b : Bool) : Prog (PE F) PUnit :=
  Prog.lift (.enqueueDma (wRow j) (.remote (Dev.tc (dN b d)) (oS b d 0 j) (.dma (Ck.snd (.rg b 0 j)).sem)) (.dma (Ck.rcv (.rg b 0 j)).sem)
    (View.wordExact_bits rfl) (View.wordExact_bits rfl) ⟨⟨rfl, Or.inl rfl⟩, trivial⟩)

/-- Start the copy of the sums into the result. -/
def pOut (d : Dev nD) : Prog (PE F) PUnit :=
  Prog.lift (.enqueueDma wM (.here (oOwn d)) (.dma Ck.out.sem) (Memref.isWhole_whole _).wordExact (View.wordExact_bits rfl) ⟨Or.inl rfl, trivial⟩)

/-- Wait for the chunk that step `s` brings in direction `b`. -/
def pRecv (d : Dev nD) (s : Fin 4) (j : Fin 8) (b : Bool) : Prog (PE F) PUnit :=
  Prog.lift (.waitDma2 (Ck.rcv (.rg b s j)).sem (wRow j) (oR b d s j) (View.wordExact_bits rfl) (View.wordExact_bits rfl))

/-- Pass chunk `j` on in direction `b` at step `s`. -/
def pSend (d : Dev nD) (s : Fin 4) (j : Fin 8) (b : Bool) : Prog (PE F) PUnit :=
  Prog.lift (.enqueueDma (oS b d s j) (.remote (Dev.tc (dN b d)) (oS b d s j) (.dma (Ck.snd (.rg b s j)).sem)) (.dma (Ck.rcv (.rg b s j)).sem)
    (View.wordExact_bits rfl) (View.wordExact_bits rfl) ⟨⟨rfl, Or.inl rfl⟩, trivial⟩)

/-- One direction of one chunk of step `s + 1`: what step `s` brought is passed on if it travels further. -/
def pPass (d : Dev nD) (s s' : Fin 4) (j : Fin 8) (b : Bool) : Prog (PE F) PUnit := do
  pRecv d s j b
  if act b s' j then pSend d s' j b else pure ⟨⟩

/-- Wait for what the last step brings. -/
def pLast (d : Dev nD) (j : Fin 8) (b : Bool) : Prog (PE F) PUnit :=
  if act b 3 j then pRecv d 3 j b else pure ⟨⟩

/-- Wait until the partner's chunk `j` has left. -/
def pDoneP (d : Dev nD) (j : Fin 8) : Prog (PE F) PUnit :=
  Prog.lift (.waitDma2 (Ck.snd (.p1 j)).sem (pSlot j) (xRow d j) ((View.wordExact_bits rfl).reshape _ _) ((View.wordExact_bits rfl).reshape _ _))

/-- Wait until a ring transfer has left: the first step's left from the sums, the others from the result. -/
def pDone0 (d : Dev nD) (b : Bool) (j : Fin 8) : Prog (PE F) PUnit :=
  Prog.lift (.waitDma2 (Ck.snd (.rg b 0 j)).sem (oS b d 0 j) (wRow j) (View.wordExact_bits rfl) (View.wordExact_bits rfl))
def pDoneS (d : Dev nD) (b : Bool) (s : Fin 4) (j : Fin 8) : Prog (PE F) PUnit :=
  if act b s j then Prog.lift (.waitDma2 (Ck.snd (.rg b s j)).sem (oS b d s j) (oS b d s j) (View.wordExact_bits rfl) (View.wordExact_bits rfl)) else pure ⟨⟩

/-- Wait until the sums are in the result. -/
def pOutW (d : Dev nD) : Prog (PE F) PUnit :=
  Prog.lift (.waitDma2 Ck.out.sem wM (oOwn d) (Memref.isWhole_whole _).wordExact (View.wordExact_bits rfl))

/-- The whole body on device `d`. -/
def prog (d : Dev nD) : Prog (PE F) PUnit := do
  pBar d
  seqL fin8 fun j => pP1 d j
  pLoc d
  seqL fin8 fun j => pAdd d j >>= fun _ => seqL dirs fun b => pFirst d j b
  pOut d
  seqL [((0 : Fin 4), (1 : Fin 4)), (1, 2), (2, 3)] fun ss => seqL fin8 fun j => seqL dirs fun b => pPass d ss.1 ss.2 j b
  seqL fin8 fun j => seqL dirs fun b => pLast d j b
  seqL fin8 fun j => pDoneP d j
  seqL dirs fun b => (seqL fin8 fun j => pDone0 d b j) >>= fun _ => seqL [(1 : Fin 4), 2, 3] fun s => seqL fin8 fun j => pDoneS d b s j
  pOutW d

end Cert.K

end
-- ==== Proof.Cont.lean ====
/-
# What the buffers hold

The contents of each buffer once it is filled, as functions of the devices' blocks of `x`, the sets of elements the
windows name, and what a copy from one window to another carries.
-/
module

public import proofs.«01_k».proof.Proof.Prog
public import Idealize.ShloMosaic.Lib.Pipeline.Launch
public import Idealize.ShloMosaic.Lib.Pipeline.Kit
public import Idealize.ShloMosaic.Lib.ValueLayout
public import Idealize.ShloMosaic.Lib.Tactic

@[expose] public section

set_option maxRecDepth 16384

noncomputable section

namespace Cert.K

open Cert.KernelIdeal Cert.KernelIdeal.Gen
open Idealize.ShloMosaic Idealize.ShloMosaic.TcCoe
open Idealize.ShloMosaic.ValueIdx

variable {F : FTy → Type} [FloatOps F]
variable (m : (ℓ : Loc nD τ sig) → Buf (Elt F) ℓ)

/-! ## Contents -/

/-- The element of device `d`'s block of `x` at row `r` and column `c`. -/
def xv (d : Dev nD) (r c : ℕ) : F .f32 := m ((d : Thread nD τ).loc main_arg0) (ix3 (0 : Fin 1) (Fin.ofNat 16384 r) (Fin.ofNat 2048 c))

/-- The device's own rows, at the columns it ends with. -/
def lF (d : Dev nD) : S2048x1024.Idx → F .f32 := fun i => xv m d (2048 * pos d + (i 0).val) (1024 * xco d + (i 1).val)
/-- The partner's rows at the same place, chunk by chunk. -/
def pF (d : Dev nD) : S8x256x1024.Idx → F .f32 := fun i =>
  xv m (ptn d) (2048 * pos d + 256 * (i 0).val + (i 1).val) (1024 * xco d + (i 2).val)
/-- Their sums. -/
def wF (d : Dev nD) : S2048x1024.Idx → F .f32 := fun i =>
  FloatOps.addf (xv m d (2048 * pos d + (i 0).val) (1024 * xco d + (i 1).val))
    (xv m (ptn d) (2048 * pos d + (i 0).val) (1024 * xco d + (i 1).val))
/-- The result: the rows of block `k` are the sums that the device at place `k` of the ring made. -/
def oF (d : Dev nD) : S16384x1024.Idx → F .f32 := fun i =>
  FloatOps.addf (xv m (onRing d ((i 0).val / 2048)) (i 0).val (1024 * xco d + (i 1).val))
    (xv m (ptn (onRing d ((i 0).val / 2048))) (i 0).val (1024 * xco d + (i 1).val))

/-- Neighbours on the ring end with the same columns. -/
theorem xco_nb (b : Bool) (d : Dev nD) : xco (nb b d) = xco d := by revert b d; decide

/-- The devices of a ring end with the same result. -/
theorem oF_nb (b : Bool) (d : Dev nD) : oF m (nb b d) = oF m d := funext fun i => by
  have h : (i 0).val / 2048 < 8 := by have := (i 0).isLt; change (i 0).val < 16384 at this; omega
  have hr : onRing (nb b d) ((i 0).val / 2048) = onRing d ((i 0).val / 2048) := onRing_nb b d ⟨_, h⟩
  unfold oF; rw [hr, xco_nb]

/-! ## The windows' elements -/

/-- Rows `[n, n + k)` of the result, and of the buffer of sums; slot `j` of the landing buffer. -/
def rowsO (n k : ℕ) : Finset S16384x1024.Idx := Finset.univ.filter fun i => n ≤ (i 0).val ∧ (i 0).val < n + k
def rowsW (n k : ℕ) : Finset S2048x1024.Idx := Finset.univ.filter fun i => n ≤ (i 0).val ∧ (i 0).val < n + k
def slotP (j : ℕ) : Finset S8x256x1024.Idx := Finset.univ.filter fun i => (i 0).val = j

/-- Chunk `j` of block `n` of the result; chunk `j` of the sums. -/
abbrev chk (n : ℕ) (j : Fin 8) : Finset S16384x1024.Idx := rowsO (2048 * n + 256 * j.val) 256
abbrev chw (j : Fin 8) : Finset S2048x1024.Idx := rowsW (256 * j.val) 256

/-- A window of whole rows of the result has the elements of those rows. -/
theorem set_oRows (off : Fin 2 → ℕ) (n k : ℕ) (hoff : off = ![n, 0]) (inb : ∀ a, off a + (![k, 1024] : Fin 2 → ℕ) a ≤ S16384x1024.size a) :
    (oM.slice (Rect.unit (s := S16384x1024) off ![k, 1024] inb) (fun _ => rfl)).view.set = rowsO n k := by
  subst hoff
  refine (View.set_slice_whole _ _).trans (Finset.ext fun i => ?_)
  rw [Rect.mem_set_unit]
  unfold rowsO
  rw [Finset.mem_filter]
  constructor
  · intro h; exact ⟨Finset.mem_univ _, h 0⟩
  · rintro ⟨-, h⟩ a
    match a with
    | 0 => exact h
    | 1 => have := (i 1).isLt; change (i 1).val < 1024 at this; exact ⟨Nat.zero_le _, by show (i 1).val < 0 + 1024; omega⟩

/-- The elements of a sent chunk's window. -/
theorem set_oS (b : Bool) (d : Dev nD) (s : Fin 4) (j : Fin 8) : (oS b d s j).view.set = chk (blk b s d) j :=
  set_oRows _ _ 256 (offS_eq b d s j) _
/-- The elements of an arriving chunk's window. -/
theorem set_oR (b : Bool) (d : Dev nD) (s : Fin 4) (j : Fin 8) : (oR b d s j).view.set = chk (rblk b s d) j :=
  set_oRows _ _ 256 (offR_eq b d s j) _
/-- The elements of the window of the device's own block. -/
theorem set_oOwn (d : Dev nD) : (oOwn d).view.set = rowsO (2048 * pos d) 2048 :=
  set_oRows _ _ 2048 (off5_eq d) _

/-- The elements of a chunk of the sums, as a rectangle. -/
theorem set_wRect (j : Fin 8) : (Rect.unit (s := S2048x1024) ![256 * j.val, 0] S256x1024.size (row_inb j)).set = chw j := by
  refine Finset.ext fun i => ?_
  rw [Rect.mem_set_unit]
  unfold chw rowsW
  rw [Finset.mem_filter]
  constructor
  · intro h; exact ⟨Finset.mem_univ _, h 0⟩
  · rintro ⟨-, h⟩ a
    match a with
    | 0 => exact h
    | 1 => have := (i 1).isLt; change (i 1).val < 1024 at this; exact ⟨Nat.zero_le _, by show (i 1).val < 0 + 1024; omega⟩
/-- The elements of the window of a chunk of the sums. -/
theorem set_wRow (j : Fin 8) : (wRow j).view.set = chw j := (View.set_slice_whole _ _).trans (set_wRect j)

/-- The elements of a landing slot, as a rectangle. -/
theorem set_pRect (j : Fin 8) : (Rect.unit (s := S8x256x1024) ![j.val, 0, 0] S1x256x1024.size (slot_inb j)).set = slotP j.val := by
  refine Finset.ext fun i => ?_
  rw [Rect.mem_set_unit]
  unfold slotP
  rw [Finset.mem_filter]
  constructor
  · intro h; refine ⟨Finset.mem_univ _, ?_⟩; have h0 : j.val ≤ (i 0).val ∧ (i 0).val < j.val + 1 := h 0; omega
  · rintro ⟨-, h⟩ a
    match a with
    | 0 => show j.val ≤ (i 0).val ∧ (i 0).val < j.val + 1; omega
    | 1 => have := (i 1).isLt; change (i 1).val < 256 at this; exact ⟨Nat.zero_le _, by show (i 1).val < 0 + 256; omega⟩
    | 2 => have := (i 2).isLt; change (i 2).val < 1024 at this; exact ⟨Nat.zero_le _, by show (i 2).val < 0 + 1024; omega⟩
/-- The elements of a landing slot's window. -/
theorem set_pSlot (j : Fin 8) : (pSlot j).view.set = slotP j.val :=
  (View.set_reshape _ _).trans ((View.set_slice_whole _ _).trans (set_pRect j))

/-! ## What the windows read -/

/-- A window of two-dimensional rows reads at `(n + x, y)`. -/
theorem read_oRows (off : Fin 2 → ℕ) (n k : ℕ) (hoff : off = ![n, 0]) (inb : ∀ a, off a + (![k, 1024] : Fin 2 → ℕ) a ≤ S16384x1024.size a)
    (g : S16384x1024.Idx → F .f32) (x : (⟨2, ![k, 1024]⟩ : Shape).Idx) (hlt : n + (x 0).val < 16384) :
    (oM.slice (Rect.unit (s := S16384x1024) off ![k, 1024] inb) (fun _ => rfl)).view.read (Elt F) g x
      = g (ix2 (⟨n + (x 0).val, hlt⟩ : Fin 16384) (⟨(x 1).val, (x 1).isLt⟩ : Fin 1024)) := by
  subst hoff
  show g _ = g _
  congr 1
  funext a
  match a with
  | 0 => exact Fin.ext (show n + 1 * (x 0).val = n + (x 0).val by omega)
  | 1 => exact Fin.ext (show 0 + 1 * (x 1).val = (x 1).val by omega)

/-- What is read through the window of a chunk of the sums. -/
theorem read_wRow (j : Fin 8) (g : S2048x1024.Idx → F .f32) (x : S256x1024.Idx) (hlt : 256 * j.val + (x 0).val < 2048) :
    (wRow j).view.read (Elt F) g x = g (ix2 (⟨256 * j.val + (x 0).val, hlt⟩ : Fin 2048) (⟨(x 1).val, (x 1).isLt⟩ : Fin 1024)) := by
  show g _ = g _
  congr 1
  funext a
  match a with
  | 0 => exact Fin.ext (show 256 * j.val + 1 * (x 0).val = 256 * j.val + (x 0).val by omega)
  | 1 => exact Fin.ext (show 0 + 1 * (x 1).val = (x 1).val by omega)

/-- The landing slot's rectangle reads at `(j, x, y)`. -/
theorem read_pRect (j : Fin 8) (g : S8x256x1024.Idx → F .f32) (x : S1x256x1024.Idx) :
    (pM.view.slice (Rect.unit (s := S8x256x1024) ![j.val, 0, 0] S1x256x1024.size (slot_inb j))).read (Elt F) g x
      = g (ix3 j (⟨(x 1).val, (x 1).isLt⟩ : Fin 256) (⟨(x 2).val, (x 2).isLt⟩ : Fin 1024)) := by
  show g _ = g _
  congr 1
  have h0 : (x 0).val < 1 := (x 0).isLt
  funext a
  match a with
  | 0 => exact Fin.ext (show j.val + 1 * (x 0).val = j.val by omega)
  | 1 => exact Fin.ext (show 0 + 1 * (x 1).val = (x 1).val by omega)
  | 2 => exact Fin.ext (show 0 + 1 * (x 2).val = (x 2).val by omega)

/-- A squeezed slot reads as its rectangle at the index with the unit axis put back. -/
theorem read_pSlot (j : Fin 8) (g : S8x256x1024.Idx → F .f32) (x : S256x1024.Idx) :
    (pSlot j).view.read (Elt F) g x = g (ix3 j (⟨(x 0).val, (x 0).isLt⟩ : Fin 256) (⟨(x 1).val, (x 1).isLt⟩ : Fin 1024)) := by
  have he : x = ix2 (⟨(x 0).val, (x 0).isLt⟩ : Fin 256) (⟨(x 1).val, (x 1).isLt⟩ : Fin 1024) := eq_ix2 x
  have hr := reshapeEquiv_ix2_1ab (a := 256) (b := 1024) (by decide) (⟨(x 0).val, (x 0).isLt⟩ : Fin 256) (⟨(x 1).val, (x 1).isLt⟩ : Fin 1024)
  have h1 : (pSlot j).view.read (Elt F) g x
      = (pM.view.slice (Rect.unit (s := S8x256x1024) ![j.val, 0, 0] S1x256x1024.size (slot_inb j))).read (Elt F) g
          (Shape.reshapeEquiv (by decide : S256x1024.numel = S1x256x1024.numel) x) := rfl
  rw [h1, read_pRect, he]
  congr 1
  have hr' : (Shape.reshapeEquiv (by decide : S256x1024.numel = S1x256x1024.numel)
      (ix2 (⟨(x 0).val, (x 0).isLt⟩ : Fin 256) (⟨(x 1).val, (x 1).isLt⟩ : Fin 1024)) : S1x256x1024.Idx) = _ := hr
  rw [hr']

/-- Rows `[n, n + k)` and columns `[c, c + 1024)` of the block of `x`, squeezed, read at `(n + x, c + y)`. -/
theorem read_xWin (d : Dev nD) (off : Fin 3 → ℕ) (n c k : ℕ) (hoff : off = ![0, n, c])
    (inb : ∀ a, off a + (![1, k, 1024] : Fin 3 → ℕ) a ≤ S1x16384x2048.size a)
    (h : (⟨2, ![k, 1024]⟩ : Shape).numel = (⟨3, ![1, k, 1024]⟩ : Shape).numel)
    (x : (⟨2, ![k, 1024]⟩ : Shape).Idx) (h0 : n + (x 0).val < 16384) (h1 : c + (x 1).val < 2048) :
    ((xM.view.slice (Rect.unit (s := S1x16384x2048) off ![1, k, 1024] inb)).reshape ⟨2, ![k, 1024]⟩ h).read (Elt F)
        (m ((d : Thread nD τ).loc main_arg0)) x = xv m d (n + (x 0).val) (c + (x 1).val) := by
  subst hoff
  have he : x = ix2 (⟨(x 0).val, (x 0).isLt⟩ : Fin k) (⟨(x 1).val, (x 1).isLt⟩ : Fin 1024) := eq_ix2 x
  have hr := reshapeEquiv_ix2_1ab (a := k) (b := 1024) h (⟨(x 0).val, (x 0).isLt⟩ : Fin k) (⟨(x 1).val, (x 1).isLt⟩ : Fin 1024)
  have h2 : ((xM.view.slice (Rect.unit (s := S1x16384x2048) ![0, n, c] ![1, k, 1024] inb)).reshape ⟨2, ![k, 1024]⟩ h).read (Elt F)
        (m ((d : Thread nD τ).loc main_arg0)) x
      = (xM.view.slice (Rect.unit (s := S1x16384x2048) ![0, n, c] ![1, k, 1024] inb)).read (Elt F)
        (m ((d : Thread nD τ).loc main_arg0)) (Shape.reshapeEquiv h x) := rfl
  rw [h2, show Shape.reshapeEquiv h x = _ from (congrArg _ he).trans hr]
  show m ((d : Thread nD τ).loc main_arg0) _ = m ((d : Thread nD τ).loc main_arg0) _
  congr 1
  funext a
  match a with
  | 0 => rfl
  | 1 => exact Fin.ext (show n + 1 * (x 0).val = (n + (x 0).val) % 16384 by rw [Nat.mod_eq_of_lt h0]; omega)
  | 2 => exact Fin.ext (show c + 1 * (x 1).val = (c + (x 1).val) % 2048 by rw [Nat.mod_eq_of_lt h1]; omega)

/-! ## What a copy carries -/

/-- A write agrees, on its window, with any contents that read there what is written. -/
theorem written {κ : Kind} {sp : Space} {s : Shape} {e : EltTy} (dst : View sig κ sp s e) (fd : dst.ty.Contents (Elt F)) (w : s.Idx → Elt F e)
    (g : dst.ty.Contents (Elt F)) (h : ∀ x, w x = dst.read (Elt F) g x) :
    ∀ i ∈ dst.set, dst.write (Elt F) fd w Finset.univ i = g i := by
  intro i hi
  obtain ⟨x, -, rfl⟩ := Finset.mem_map.mp hi
  rw [View.write_emb_of_mem _ _ (Finset.mem_univ x), h x, View.read_apply, cast_cast, cast_eq]

/-- A chunk's row is below 256. -/
theorem x0_lt (x : S256x1024.Idx) : (x 0).val < 256 := (x 0).isLt
/-- A chunk's column is below 1024. -/
theorem x1_lt (x : S256x1024.Idx) : (x 1).val < 1024 := (x 1).isLt

/-- The own rows. -/
theorem carry_loc (d : Dev nD) (x : S2048x1024.Idx) :
    (xOwn d).view.read (Elt F) (m ((d : Thread nD τ).loc main_arg0)) x = lM.view.read (Elt F) (lF m d) x := by
  have hp := pos_lt d; have hx := xco_lt d
  have h0 : (x 0).val < 2048 := (x 0).isLt
  have h1 : (x 1).val < 1024 := (x 1).isLt
  exact read_xWin m d _ _ _ 2048 (off2_eq d) _ _ x (by omega) (by omega)

/-- The partner's chunk. -/
theorem carry_p1 (d : Dev nD) (j : Fin 8) (x : S256x1024.Idx) :
    (xRow d j).view.read (Elt F) (m ((d : Thread nD τ).loc main_arg0)) x = (pSlot j).view.read (Elt F) (pF m (ptn d)) x := by
  have hp := pos_lt d; have hx := xco_lt d; have h0 := x0_lt x; have h1 := x1_lt x; have hj := j.isLt
  rw [read_pSlot]
  refine (read_xWin m d _ _ _ 256 (off1_eq d j) _ _ x (by omega) (by omega)).trans ?_
  unfold pF
  rw [ptn_ptn, pos_ptn, xco_ptn]

/-- In a device's own block the result is its own element and its partner's, added. -/
theorem oF_block (d : Dev nD) (r : Fin 16384) (c : Fin 1024) (hr : r.val / 2048 = pos d) :
    oF m d (ix2 r c) = FloatOps.addf (xv m d r.val (1024 * xco d + c.val)) (xv m (ptn d) r.val (1024 * xco d + c.val)) := by
  show FloatOps.addf (xv m (onRing d (r.val / 2048)) r.val (1024 * xco d + c.val))
    (xv m (ptn (onRing d (r.val / 2048))) r.val (1024 * xco d + c.val)) = _
  rw [hr, onRing_pos]

/-- The sums, to a neighbour. -/
theorem carry_first (b : Bool) (d : Dev nD) (j : Fin 8) (x : S256x1024.Idx) :
    (wRow j).view.read (Elt F) (wF m d) x = (oS b d 0 j).view.read (Elt F) (oF m (nb b d)) x := by
  have hp := pos_lt d; have h0 := x0_lt x; have hj := j.isLt
  have ho : offS b d 0 j = ![2048 * pos d + 256 * j.val, 0] := by rw [offS_eq, blk_zero]
  refine (read_wRow j _ x (by omega)).trans (Eq.symm ?_)
  rw [oF_nb]
  refine (read_oRows _ _ 256 ho _ (oF m d) x (by omega)).trans ?_
  rw [oF_block m d _ _ (show (2048 * pos d + 256 * j.val + (x 0).val) / 2048 = pos d by omega)]
  unfold wF
  show FloatOps.addf (xv m d (2048 * pos d + 256 * j.val + (x 0).val) _) (xv m (ptn d) (2048 * pos d + 256 * j.val + (x 0).val) _)
    = FloatOps.addf (xv m d (2048 * pos d + (256 * j.val + (x 0).val)) _) (xv m (ptn d) (2048 * pos d + (256 * j.val + (x 0).val)) _)
  rw [Nat.add_assoc]

/-- The sums, to the own result. -/
theorem carry_out (d : Dev nD) (x : S2048x1024.Idx) :
    wM.view.read (Elt F) (wF m d) x = (oOwn d).view.read (Elt F) (oF m d) x := by
  have hp := pos_lt d
  have h0 : (x 0).val < 2048 := (x 0).isLt
  refine Eq.symm ((read_oRows _ _ 2048 (off5_eq d) _ (oF m d) x (by omega)).trans ?_)
  rw [oF_block m d _ _ (show (2048 * pos d + (x 0).val) / 2048 = pos d by omega)]
  rfl

/-- A chunk passed on. -/
theorem carry_pass (b : Bool) (d : Dev nD) (s : Fin 4) (j : Fin 8) (x : S256x1024.Idx) :
    (oS b d s j).view.read (Elt F) (oF m d) x = (oS b d s j).view.read (Elt F) (oF m (nb b d)) x := by
  rw [oF_nb]

/-- The sum of the own and the partner's chunk `j`. -/
theorem sum_row (d : Dev nD) (j : Fin 8) (x : S256x1024.Idx) :
    payF (F := F) (lM.view.readAt (Elt F) (Rect.unit (s := S2048x1024) ![256 * j.val, 0] S256x1024.size (row_inb j)).toLoadRect (lF m d))
        (pM.view.readAt (Elt F) (Rect.unit (s := S8x256x1024) ![j.val, 0, 0] S1x256x1024.size (slot_inb j)).toLoadRect (pF m d)) x
      = (wRow j).view.read (Elt F) (wF m d) x := by
  have hp := pos_lt d; have h0 := x0_lt x; have hj := j.isLt
  rw [View.readAt_rect, View.readAt_rect]
  have hv := read_wRow (F := F) j (lF m d) x (by omega)
  have hv' := read_pRect (F := F) j (pF m d) (Fin.cons ⟨0, Nat.one_pos⟩ x)
  rw [read_wRow j _ x (by omega)]
  unfold payF k0_pay1
  rw [shapeCast_self]
  show FloatOps.addf (View.read (Elt F) (wRow j).view (lF m d) x) (shapeCast S256x1024 _ shapeCasts_S1x256x1024_S256x1024 x) = _
  rw [hv, show shapeCast S256x1024 (View.read (Elt F) (pM.view.slice (Rect.unit (s := S8x256x1024) ![j.val, 0, 0] S1x256x1024.size (slot_inb j))) (pF m d))
    shapeCasts_S1x256x1024_S256x1024 x = _ from (shapeCast_dropUnit_apply ![256, 1024] _ _ x).trans hv']
  show FloatOps.addf (xv m d (2048 * pos d + (256 * j.val + (x 0).val)) _) (xv m (ptn d) (2048 * pos d + 256 * j.val + (x 0).val) _)
    = FloatOps.addf (xv m d (2048 * pos d + (256 * j.val + (x 0).val)) _) (xv m (ptn d) (2048 * pos d + (256 * j.val + (x 0).val)) _)
  rw [Nat.add_assoc]
  rfl

end Cert.K

end
-- ==== Proof.Sched.lean ====
/-
# The schedule: which cell is paid by whom, with what

Every semaphore cell has one round. A device's barrier cell has three duties, one unit each: the partner's signal hands
over the partner's landing slots; the signal of the neighbour in direction `b` hands over the rows of that neighbour's
result which this device will write. A transfer's cells and the local copies' have one duty each, of the transfer's
credit: the receiver's hands over the rows that arrived, at their contents, the sender's what was lent of the source.
The transfers that the last step leaves out have cells without duty.
-/
module

public import proofs.«01_k».proof.Proof.Cont
public import Idealize.ShloMosaic.Lib.Pipeline.BigSepL

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The protocol's own rounds, with a barrier's duties named by who signals: the partner or the neighbour in a direction. -/
abbrev UB : Type := URounds (GSem nD τ sig) (Option Bool)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- Where a transfer goes. -/
def tgt : Tr → Dev nD → Dev nD
  | .p1 _ => ptn
  | .rg b _ _ => nb b

/-- Whether a transfer is made. -/
def Tr.act : Tr → Bool
  | .p1 _ => true
  | .rg b s j => Cert.K.act b s j

def Ck.act : Ck → Bool
  | .loc => true
  | .out => true
  | .snd t => t.act
  | .rcv t => t.act

/-- The cell with a number. -/
def ckOf (n : ℕ) : Ck :=
  if n < 8 then .snd (.p1 (Fin.ofNat 8 n)) else if n < 16 then .rcv (.p1 (Fin.ofNat 8 n))
  else if n = 16 then .loc else if n = 17 then .out
  else if n < 50 then .snd (.rg true (Fin.ofNat 4 ((n - 18) / 8)) (Fin.ofNat 8 (n - 18)))
  else if n < 82 then .rcv (.rg true (Fin.ofNat 4 ((n - 50) / 8)) (Fin.ofNat 8 (n - 50)))
  else if n < 114 then .snd (.rg false (Fin.ofNat 4 ((n - 82) / 8)) (Fin.ofNat 8 (n - 82)))
  else .rcv (.rg false (Fin.ofNat 4 ((n - 114) / 8)) (Fin.ofNat 8 (n - 114)))

/-- A cell is found from its number. -/
theorem ckOf_num (k : Ck) : ckOf k.num = k := by
  rcases k with _ | _ | t | t
  · rfl
  · rfl
  all_goals
    rcases t with j | ⟨b, s, j⟩
    · revert j; decide
    · revert b s j; decide
/-- A number is found from its cell. -/
theorem sem_ckOf (i : Fin 146) : (ckOf i.val).sem = i := by revert i; decide +kernel

abbrev bar (d : Dev nD) : GSem nD τ sig := ((d : Thread nD τ), .reg barS)
abbrev cell (d : Dev nD) (k : Ck) : GSem nD τ sig := ((d : Thread nD τ), .dma k.sem)

/-- The credit of a chunk's transfer; of a block's copy. -/
def N : ℕ := (pSlot 0).view.dmaCredit
def N2 : ℕ := lM.view.dmaCredit
/-- A chunk's credit is positive. -/
theorem N_pos : 0 < N := View.dmaCredit_pos _ (by decide)
/-- A block's credit is positive. -/
theorem N2_pos : 0 < N2 := View.dmaCredit_pos _ (by decide)

/-! ## What is handed over -/

/-- Elements of a device's result, of its landing buffer, of its own rows, of the sums. -/
abbrev oPt (d : Dev nD) (S : Finset S16384x1024.Idx) (q : PosShare TreeShare) (f : S16384x1024.Idx → F .f32) : sProp 𝕄 :=
  ((d : Thread nD τ).loc main_v1) ↦[S]{q} f
abbrev pPt (d : Dev nD) (S : Finset S8x256x1024.Idx) (q : PosShare TreeShare) (f : S8x256x1024.Idx → F .f32) : sProp 𝕄 :=
  ((d : Thread nD τ).loc cc0_scratch0) ↦[S]{q} f
abbrev lPt (d : Dev nD) (S : Finset S2048x1024.Idx) (q : PosShare TreeShare) (f : S2048x1024.Idx → F .f32) : sProp 𝕄 :=
  ((d : Thread nD τ).loc cc0_scratch1) ↦[S]{q} f
abbrev wPt (d : Dev nD) (S : Finset S2048x1024.Idx) (q : PosShare TreeShare) (f : S2048x1024.Idx → F .f32) : sProp 𝕄 :=
  ((d : Thread nD τ).loc cc0_scratch2) ↦[S]{q} f

abbrev s4 : List (Fin 4) := [0, 1, 2, 3]

/-- The share of the sums lent to the first step in each direction; the rest is lent to the copy into the result. -/
def shF : Bool → PosShare TreeShare
  | true => (fullShare : PosShare TreeShare).left
  | false => (fullShare : PosShare TreeShare).right.left
abbrev shO : PosShare TreeShare := (fullShare : PosShare TreeShare).right.right

/-- Room for what `d` sends in direction `b` at step `s` as chunk `j`. -/
def room (b : Bool) (d : Dev nD) (s : Fin 4) (j : Fin 8) : sProp 𝕄 :=
  if act b s j then iprop(∃ f, oPt (F := F) (nb b d) (chk (blk b s d) j) fullShare f) else iprop(emp)

/-- What the signals to `d`'s barrier hand it. -/
def barPay (d : Dev nD) : Option Bool → sProp 𝕄
  | none => bigSepL fin8 fun j => iprop(∃ f, pPt (F := F) (ptn d) (slotP j.val) fullShare f)
  | some b => bigSepL s4 fun s => bigSepL fin8 fun j => room b d s j

/-- What the other cells hand over. -/
def pay (d : Dev nD) : Ck → sProp 𝕄
  | .loc => lPt d Finset.univ fullShare (lF m d)
  | .out => iprop(oPt d (rowsO (2048 * pos d) 2048) fullShare (oF m d) ∗ wPt d Finset.univ shO (wF m d))
  | .snd (.p1 _) => iprop(emp)
  | .snd (.rg b s j) => if s = 0 then wPt d (chw j) (shF b) (wF m d) else iprop(emp)
  | .rcv (.p1 j) => pPt d (slotP j.val) fullShare (pF m d)
  | .rcv (.rg b s j) => oPt d (chk (rblk b s d) j) fullShare (oF m d)

instance list_storable {I : Type} (l : List I) (Φ : I → sProp 𝕄) [h : ∀ i, BI.Storable (upEmb : UEmb _ 𝕄) (Φ i)] :
    BI.Storable (upEmb : UEmb _ 𝕄) (bigSepL l Φ) := by
  induction l with
  | nil => exact (inferInstance : BI.Storable (upEmb : UEmb _ 𝕄) (iprop(emp) : sProp 𝕄))
  | cons i l ih => rw [bigSepL_cons']; infer_instance
instance room_storable (b : Bool) (d : Dev nD) (s : Fin 4) (j : Fin 8) : BI.Storable (upEmb : UEmb _ 𝕄) (room (F := F) b d s j) := by
  unfold room; split <;> infer_instance
instance barPay_storable (d : Dev nD) (o : Option Bool) : BI.Storable (upEmb : UEmb _ 𝕄) (barPay (F := F) d o) := by
  rcases o with _ | b <;> unfold barPay
  · infer_instance
  · infer_instance
instance pay_storable (d : Dev nD) (k : Ck) : BI.Storable (upEmb : UEmb _ 𝕄) (pay m d k) := by
  rcases k with _ | _ | (j | ⟨b, s, j⟩) | (j | ⟨b, s, j⟩) <;> unfold pay <;> (repeat' split) <;> infer_instance

/-- The schedule. -/
def sched : Rounds.Schedule (GSem nD τ sig) (Option Bool) 𝕄 where
  duties g r := if r = 0 then (match g.2 with
    | .reg _ => Finset.univ
    | .dma i => if (ckOf i.val).act then {none} else ∅) else ∅
  unitless _ := False
  amount g _ _ := match g.2 with
    | .reg _ => 1
    | .dma i => match ckOf i.val with
      | .loc => N2
      | .out => N2
      | _ => N
  payload g _ o := match g.2 with
    | .reg _ => barPay g.1.1 o
    | .dma i => pay m g.1.1 (ckOf i.val)
  amount_pos g _ _ _ := by
    split
    · exact Nat.one_pos
    · split
      · exact N2_pos
      · exact N2_pos
      · exact N_pos

instance sched_storable (g : GSem nD τ sig) (r : ℕ) (o : Option Bool) : BI.Storable (upEmb : UEmb _ 𝕄) ((sched m).payload g r o) := by
  obtain ⟨⟨d, p⟩, l⟩ := g
  rcases l with s | i
  · exact barPay_storable d o
  · exact pay_storable m d (ckOf i.val)

/-- The amount of a cell. -/
def amt : Ck → ℕ
  | .loc => N2
  | .out => N2
  | .snd _ => N
  | .rcv _ => N

/-- A barrier's duties are the three signals. -/
theorem duties_bar (d : Dev nD) : (sched m).duties (bar d) 0 = Finset.univ := rfl
/-- A cell has one duty if its transfer is made, else none. -/
theorem duties_cell (d : Dev nD) (k : Ck) : (sched m).duties (cell d k) 0 = if k.act then {none} else ∅ := by
  show (if (0 : ℕ) = 0 then (if (ckOf k.num).act then ({none} : Finset (Option Bool)) else ∅) else ∅) = _
  rw [if_pos rfl, ckOf_num]
/-- The duty of a cell whose transfer is made. -/
theorem duties_on (d : Dev nD) (k : Ck) (h : k.act = true) : (sched m).duties (cell d k) 0 = {none} := by rw [duties_cell, if_pos h]
/-- There is one round only. -/
theorem duties_later (g : GSem nD τ sig) : ∀ r, 1 ≤ r → (sched m).duties g r = ∅ := fun r hr => if_neg (by omega)
/-- A cell whose transfer is not made has no duty in any round. -/
theorem duties_off (d : Dev nD) (k : Ck) (h : k.act = false) : ∀ r, 0 ≤ r → (sched m).duties (cell d k) r = ∅ := fun r _ => by
  rcases r with _ | r
  · rw [duties_cell, h]; rfl
  · exact duties_later m _ _ (by omega)

/-- A signal's amount is one. -/
theorem amount_bar (d : Dev nD) (o : Option Bool) : (sched m).amount (bar d) 0 o = 1 := rfl
/-- The amount of a cell's duty. -/
theorem amount_cell (d : Dev nD) (k : Ck) (o : Option Bool) : (sched m).amount (cell d k) 0 o = amt k := by
  show (match ckOf k.num with | .loc => N2 | .out => N2 | _ => N) = _
  rw [ckOf_num]; cases k <;> rfl

/-- What a signal hands over. -/
theorem payload_bar (d : Dev nD) (o : Option Bool) : (sched m).payload (bar d) 0 o = barPay d o := rfl
/-- What a cell's duty hands over. -/
theorem payload_cell (d : Dev nD) (k : Ck) (o : Option Bool) : (sched m).payload (cell d k) 0 o = pay m d k := by
  show pay m d (ckOf k.num) = _
  rw [ckOf_num]

/-- A barrier expects three units. -/
theorem expect_bar (d : Dev nD) : (sched m).expect (bar d) 0 = 3 := by
  unfold Schedule.expect Schedule.amountOf
  rw [duties_bar, Finset.sum_congr rfl fun o _ => amount_bar m d o]; rfl
/-- A cell expects its transfer's credit. -/
theorem expect_cell (d : Dev nD) (k : Ck) (h : k.act = true) : (sched m).expect (cell d k) 0 = amt k := by
  unfold Schedule.expect Schedule.amountOf; rw [duties_on m d k h, Finset.sum_singleton, amount_cell]

/-- All that a barrier hands over. -/
theorem rest_bar (d : Dev nD) : bigSep ((sched m).duties (bar d) 0 \ ∅) (fun o => (sched m).payload (bar d) 0 o)
    = iprop(barPay d none ∗ barPay d (some true) ∗ barPay d (some false)) := by
  rw [Finset.sdiff_empty, duties_bar, bigSep_univ_eq_bigSepL [none, some true, some false] (by decide) (by decide)]
  rfl
/-- All that a cell hands over. -/
theorem rest_cell (d : Dev nD) (k : Ck) (h : k.act = true) :
    bigSep ((sched m).duties (cell d k) 0 \ ∅) (fun o => (sched m).payload (cell d k) 0 o) = pay m d k := by
  rw [Finset.sdiff_empty, duties_on m d k h, bigSep_singleton, payload_cell]

/-! ## What a device owes; the levels -/

/-- What device `c` owes for a transfer. -/
def dt (c : Dev nD) (t : Tr) : CellTallies nD τ sig Unit := if t.act then tallyAt (cell (tgt t c) (.rcv t)) () N else 0

/-- A transfer's level: the partner's below the ring's, the ring's by step. -/
def lvT : Tr → ℕ
  | .p1 _ => 2
  | .rg _ s _ => 3 + s.val
def lvK : Ck → ℕ
  | .rcv t => lvT t
  | _ => 0

def L (g : GSem nD τ sig) : Finset Unit := if g.1.2 = .tc then {()} else ∅
/-- Local copies and departures lowest, the barrier above them, arrivals by transfer. -/
def lv (g : GSem nD τ sig) (_ : Unit) : ℕ := match g.2 with
  | .reg _ => 1
  | .dma i => lvK (ckOf i.val)

/-- Cells of other threads have no level. -/
theorem L_of_ne (g : GSem nD τ sig) (h : g.1.2 ≠ .tc) : L g = ∅ := if_neg h
/-- A device's cells have one level each. -/
theorem L_tc (c : Dev nD) (sm : SemLoc sig) : L ((c : Thread nD τ), sm) = {()} := if_pos rfl
/-- A numbered cell's level. -/
theorem lv_cell (d : Dev nD) (k : Ck) : lv (cell d k) () = lvK k := by
  show lvK (ckOf k.num) = _
  rw [ckOf_num]

/-- Where a device owes for a list of transfers, it owes to the receiver of one of them. -/
theorem debt_pos (c : Dev nD) (l : List Tr) (g : GSem nD τ sig) (u : Unit) (h : 0 < ((l.map (dt c)).sum) g u) :
    ∃ t ∈ l, g = cell (tgt t c) (.rcv t) := by
  induction l with
  | nil => exact absurd h (Nat.lt_irrefl 0)
  | cons t l ih =>
    rw [List.map_cons, List.sum_cons, Pi.add_apply, Finsupp.add_apply] at h
    by_cases h1 : 0 < dt c t g u
    · refine ⟨t, List.mem_cons_self, ?_⟩
      unfold dt at h1
      split at h1
      · rw [tallyAt_apply] at h1
        by_contra hn
        rw [if_neg (fun h' => hn h'.1)] at h1
        exact absurd h1 (Nat.lt_irrefl 0)
      · exact absurd h1 (Nat.lt_irrefl 0)
    · obtain ⟨t', ht', hg⟩ := ih (by omega)
      exact ⟨t', List.mem_cons_of_mem _ ht', hg⟩

/-- A device may wait on a cell below the transfers it still owes. -/
theorem mayWait (c : Dev nD) (sm : SemLoc sig) (k : ℕ) (hk : lv ((c : Thread nD τ), sm) () ≤ k) (l : List Tr) (hl : ∀ t ∈ l, k < lvT t) :
    (levAts L lv : sProp 𝕄) ⊢ MayWait (c : Thread nD τ) sm () ((l.map (dt c)).sum) :=
  MayOwe.of_cut (L := L) (lev := lv) k (fun p hp => by rw [Finset.mem_singleton.mp hp, L_tc]; exact Finset.mem_singleton_self _)
    (fun g u hg => by obtain ⟨t, -, rfl⟩ := debt_pos c l g u hg; rw [L_tc]; exact Finset.mem_singleton_self _)
    (fun p hp => by rw [Finset.mem_singleton.mp hp]; exact hk)
    (fun g u hg => by obtain ⟨t, ht, rfl⟩ := debt_pos c l g u hg; cases u; rw [lv_cell]; exact hl t ht)

/-- What device `c` owes while the transfers `l`, all above level `k`, are still to be made. -/
def Ow (c : Dev nD) (k : ℕ) (l : List Tr) : sProp 𝕄 :=
  iprop(∃ W, ⌜∀ t ∈ l, k < lvT t⌝ ∗ owes (c : Thread nD τ) ((l.map (dt c)).sum) W)

/-! ## The records every device holds -/

/-- A device's cells: the barrier's and the numbered ones. -/
abbrev kcell (p : Dev nD × Option (Fin 146)) : GSem nD τ sig := match p.2 with
  | none => bar p.1
  | some i => ((p.1 : Thread nD τ), .dma i)

/-- Every cell's invariant, and that every cell is at its round. -/
def records (K : Dev nD × Option (Fin 146) → ℕ) : sProp 𝕄 :=
  iprop((bigSep Finset.univ fun p : Dev nD × Option (Fin 146) => cellInv ER (sched m) (K p) (kcell p))
    ∗ (bigSep Finset.univ fun p : Dev nD × Option (Fin 146) => reached ER (kcell p) 0) ∗ levAts L lv)

instance records_persistent (K : Dev nD × Option (Fin 146) → ℕ) : BI.Persistent (records m K) := by unfold records; infer_instance

section Records
variable (K : Dev nD × Option (Fin 146) → ℕ)

/-- One cell's invariant out of all. -/
theorem inv_at (p : Dev nD × Option (Fin 146)) :
    (bigSep Finset.univ fun p : Dev nD × Option (Fin 146) => (cellInv ER (sched m) (K p) (kcell p) : sProp 𝕄)) ⊢ cellInv ER (sched m) (K p) (kcell p) :=
  bigSep_elim (Finset.mem_univ p)
/-- One cell's round out of all. -/
theorem reached_at (p : Dev nD × Option (Fin 146)) :
    (bigSep Finset.univ fun p : Dev nD × Option (Fin 146) => (reached ER (kcell p) 0 : sProp 𝕄)) ⊢ reached ER (kcell p) 0 :=
  bigSep_elim (Finset.mem_univ p)
/-- The records give a barrier's invariant. -/
theorem inv_bar (d : Dev nD) : records m K ⊢ cellInv ER (sched m) (K (d, none)) (bar d) := by
  unfold records; iintro ⟨H, -⟩; iapply (inv_at m K (d, none)); iexact H
/-- The records give a cell's invariant. -/
theorem inv_cell (d : Dev nD) (k : Ck) : records m K ⊢ cellInv ER (sched m) (K (d, some k.sem)) (cell d k) := by
  unfold records; iintro ⟨H, -⟩; iapply (inv_at m K (d, some k.sem)); iexact H
/-- The records give that a barrier is at its round. -/
theorem reached_bar (d : Dev nD) : records m K ⊢ reached ER (bar d) 0 := by
  unfold records; iintro ⟨-, H, -⟩; iapply (reached_at (F := F) (d, none)); iexact H
/-- The records give that a cell is at its round. -/
theorem reached_cell (d : Dev nD) (k : Ck) : records m K ⊢ reached ER (cell d k) 0 := by
  unfold records; iintro ⟨-, H, -⟩; iapply (reached_at (F := F) (d, some k.sem)); iexact H
/-- The records give the levels. -/
theorem levels : records m K ⊢ levAts L lv := by
  unfold records; iintro ⟨-, -, H⟩; iexact H

end Records

end Cert.K

end
-- ==== Proof.Ops.lean ====
/-
# The rules the body is run by

Running programs one after another and along lists; a wait on a cell and its closing; a transfer to another device.
-/
module

public import proofs.«01_k».proof.Proof.Sched

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Running `p` on device `c` ends with `Q`. -/
abbrev W (c : Dev nD) (p : Prog (PE F) PUnit) (Q : sProp 𝕄) : sProp 𝕄 :=
  wp frame (wpE (defs₀ (F := F)) 𝒱₀ (c : Thread nD τ) none) Set.univ p (fun _ => Q)

section Seq
variable {c : Dev nD} {p q : Prog (PE F) PUnit}

/-- One program after another. -/
theorem W_seq {P Q R : sProp 𝕄} (h : P ⊢ W c p R) (h' : R ⊢ W c q Q) : P ⊢ W c (p >>= fun _ => q) Q := by
  unfold W; rw [wp_bind]; exact h.trans (wp_mono _ _ _ fun _ => h')

/-- Going on after a program. -/
theorem W_then {Q R : sProp 𝕄} : W c p R ⊢ iprop((R -∗ W c q Q) -∗ W c (p >>= fun _ => q) Q) := by
  unfold W; rw [wp_bind]
  iintro H Hk
  iapply (wp_wand _ _ _) $$ H
  iintro %_ HR
  iapply Hk; iexact HR

/-- Weakening what a program ends with by what is held. -/
theorem W_imp {Q R : sProp 𝕄} : W c p R ⊢ iprop((R -∗ Q) -∗ W c p Q) := by
  unfold W
  iintro H Hk
  iapply (wp_wand _ _ _) $$ H
  iintro %_ HR
  iapply Hk; iexact HR

/-- A program that is over ends with what was held. -/
theorem W_done {P : sProp 𝕄} : P ⊢ W c (pure ⟨⟩) P := by
  unfold W; rw [wp_pure]; exact fupd_intro

end Seq

/-- A program run for each element of a list: each uses its part `A a`, leaves `B a`, and keeps `I` up along what is left
    of the list. -/
theorem W_list {α : Type} {c : Dev nD} (R : sProp 𝕄) [BI.Persistent R] (A B : α → sProp 𝕄) (I : List α → sProp 𝕄) (f : α → Prog (PE F) PUnit)
    (h : ∀ a l, iprop(R ∗ A a ∗ I (a :: l)) ⊢ W c (f a) iprop(B a ∗ I l)) :
    ∀ l, iprop(R ∗ bigSepL l A ∗ I l) ⊢ W c (seqL l f) iprop(bigSepL l B ∗ I [])
  | [] => by
    unfold seqL
    refine (show iprop(R ∗ bigSepL [] A ∗ I []) ⊢ iprop(bigSepL [] B ∗ I []) from ?_).trans W_done
    iintro ⟨-, HA, HI⟩
    isplitl [HA]; · iexact HA
    iexact HI
  | a :: l => by
    unfold seqL
    rw [bigSepL_cons', bigSepL_cons']
    iintro ⟨#HR, ⟨Ha, Hl⟩, HI⟩
    ihave H := (h a l) $$ [Ha HI]
    · isplitr; · iexact HR
      isplitl [Ha] <;> iassumption
    iapply W_then $$ H
    iintro ⟨HB, HI⟩
    ihave H := (W_list R A B I f h l) $$ [Hl HI]
    · isplitr; · iexact HR
      isplitl [Hl] <;> iassumption
    iapply W_imp $$ H
    iintro ⟨H1, H2⟩
    isplitl [HB H1]
    · isplitl [HB] <;> iassumption
    iexact H2

/-! ## What a device holds for its cells -/

variable (K : Dev nD × Option (Fin 146) → ℕ)

/-- What a transfer's sender pays with. -/
def sendTok (c : Dev nD) (t : Tr) : sProp 𝕄 :=
  iprop(dutyTok ER (cell c (.snd t)) 0 none ∗ dutyTok ER (cell (tgt t c) (.rcv t)) 0 none)
/-- What its receiver waits with. -/
def rcvRes (c : Dev nD) (t : Tr) : sProp 𝕄 :=
  iprop(atPos ER (cell c (.rcv t)) 0 ∅ 0 ∗ cred (tallyAt (cell c (.rcv t)) () (if t.act then N else 0)))
/-- The sender's place at its own cell; what it may wait there for once it has sent. -/
def sndPos (c : Dev nD) (t : Tr) : sProp 𝕄 := atPos ER (cell c (.snd t)) 0 ∅ 0
def sndCred (c : Dev nD) (t : Tr) : sProp 𝕄 := if t.act then cred (tallyAt (cell c (.snd t)) () N) else iprop(emp)
/-- A cell at zero again. -/
def zero (c : Dev nD) (k : Ck) : sProp 𝕄 := semVal (cell c k) 0

/-- What is owed may be read at another level below all of it. -/
theorem Ow_weaken (c : Dev nD) (k k' : ℕ) (l : List Tr) (h : ∀ t ∈ l, k' < lvT t) : Ow (F := F) c k l ⊢ Ow c k' l := by
  unfold Ow
  iintro ⟨%w, -, H⟩
  iexists w
  isplitr; · (ipureintro; exact h)
  iexact H

/-- A transfer not made is owed nothing for. -/
theorem Ow_skip (c : Dev nD) (k : ℕ) (t : Tr) (l : List Tr) (h : t.act = false) : Ow (F := F) c k (t :: l) ⊢ Ow c k l := by
  unfold Ow
  rw [List.map_cons, List.sum_cons, show dt c t = 0 by unfold dt; rw [h]; rfl, zero_add]
  iintro ⟨%w, %hw, H⟩
  iexists w
  isplitr; · (ipureintro; exact fun t ht => hw t (List.mem_cons_of_mem _ ht))
  iexact H

/-- A wait for a cell's whole credit: its payload comes, and the cell is closed. -/
theorem wait_close (c : Dev nD) (k : Ck) (hk : k.act = true) (kk : ℕ) (hkk : lvK k ≤ kk) (l : List Tr) (i : DmaSem sig) (hi : i = k.sem)
    {sp sp' : Space} {s s' : Shape} {e e' : EltTy} (src : Memref sig .tc sp' s' e') (dst : Memref sig .tc sp s e)
    (hsrc : src.view.WordExact) (hdst : dst.view.WordExact) (ha : dst.view.dmaCredit = amt k) :
    iprop(records m K ∗ (atPos ER (cell c k) 0 ∅ 0 ∗ cred (tallyAt (cell c k) () (amt k))) ∗ Ow c kk l)
      ⊢ W c (Prog.lift (.waitDma2 i src dst hsrc hdst)) iprop((pay m c k ∗ zero c k) ∗ Ow c kk l) := by
  subst hi
  unfold W Ow
  simp only [Prog.lift]
  iintro ⟨#HR, ⟨Hat, Hc⟩, %w, %hw, HO⟩
  iapply (Rounds.wp_wait_rest_token 𝒱₀ ER (sched m) (c : Thread nD τ) none (κ := K (c, some k.sem))
      (wpE_waitDma2_eq 𝒱₀ (c : Thread nD τ) none Set.univ) (Set.mem_univ _) () (O := (l.map (dt c)).sum) (W := w) (R := 0) (m := 0) (T := ∅)
      (by rw [Nat.zero_add, ha]; exact (expect_cell m c k hk).symm)) $$ [Hat Hc HO]
  · isplitr; · iapply (inv_cell m K c k); iexact HR
    isplitl [Hc]; · rw [ha]; iexact Hc
    isplitl [HO]; · iexact HO
    isplitr; · iapply (mayWait c (.dma k.sem) kk (by rw [show lv ((c : Thread nD τ), SemLoc.dma k.sem) () = lvK k from lv_cell c k]; exact hkk) l hw); iapply (levels m K); iexact HR
    iexact Hat
  iintro ⟨HO, Hat, -, Hpay⟩
  ihave Hp := (Entails.of_eq (rest_cell m c k hk)) $$ Hpay
  imod (Rounds.cell_close ER (sched m) (Set.mem_univ (K (c, some k.sem))) (fun h => h) (R := 0 + 1) (duties_later m (cell c k))) $$ [Hat] with Hz
  · isplitr; · iapply (inv_cell m K c k); iexact HR
    iexact Hat
  rw [wp_ret]; imodintro
  isplitl [Hp Hz]
  · isplitl [Hp]; · iexact Hp
    unfold zero; iexact Hz
  iexists (insert (SemLoc.dma k.sem, ()) w)
  isplitr; · (ipureintro; exact hw)
  iexact HO

/-- A cell without duty is closed as it stands. -/
theorem close_off (c : Dev nD) (k : Ck) (hk : k.act = false) :
    iprop(records m K ∗ atPos ER (cell c k) 0 ∅ 0) ⊢ |={Set.univ}=> zero c k := by
  iintro ⟨#HR, Hat⟩
  imod (Rounds.cell_close ER (sched m) (Set.mem_univ (K (c, some k.sem))) (fun h => h) (R := 0) (duties_off m c k hk)) $$ [Hat] with Hz
  · isplitr; · iapply (inv_cell m K c k); iexact HR
    iexact Hat
  imodintro
  unfold zero; iexact Hz

/-- A transfer to another device. -/
theorem send (c n : Dev nD) (t : Tr) (ht : t.act = true) (hn : n = tgt t c) (k : ℕ) (l : List Tr)
    {sp sp' : Space} {s : Shape} {e : EltTy} {src : Memref sig .tc sp s e} {dst : Memref sig (Dev.tc n : Thread nD τ).2.kind sp' s e}
    {hsc : dst.view.ref.isScScratch = false} {hsrc : src.view.WordExact} {hdst : dst.view.WordExact}
    {hsem : DmaTarget.Typed sp (.dma (Ck.rcv t).sem) (.remote (Dev.tc n : Thread nD τ) dst (.dma (Ck.snd t).sem) hsc)}
    (hN : dst.view.amount (.dma (Ck.rcv t).sem) = N) {q : PosShare TreeShare} (fs : Buf (Elt F) (src.view.loc (c : Thread nD τ)))
    (fd : Buf (Elt F) (dst.view.loc (Dev.tc n : Thread nD τ)))
    (hpay₁ : (src.view.loc (c : Thread nD τ) ↦[src.view.set]{q} fs) ⊢ pay m c (.snd t))
    (hpay₂ : (dst.view.loc (Dev.tc n : Thread nD τ) ↦[dst.view.set]{fullShare} (dst.view.write (Elt F) fd (src.view.read (Elt F) fs) Finset.univ))
      ⊢ pay m n (.rcv t)) :
    iprop(records m K ∗ ((src.view.loc (c : Thread nD τ) ↦[src.view.set]{q} fs) ∗ (dst.view.loc (Dev.tc n : Thread nD τ) ↦[dst.view.set]{fullShare} fd)
        ∗ sendTok c t) ∗ Ow c k (t :: l))
      ⊢ W c (Prog.lift (.enqueueDma src (.remote (Dev.tc n : Thread nD τ) dst (.dma (Ck.snd t).sem) hsc) (.dma (Ck.rcv t).sem) hsrc hdst hsem))
          iprop(sndCred c t ∗ Ow c k l) := by
  unfold W Ow sendTok sndCred
  rw [if_pos ht, ← hn]
  simp only [Prog.lift]
  iintro ⟨#HR, ⟨Hs, Hd, Ht1, Ht2⟩, %w, %hw, HO⟩
  iapply (Rounds.wp_send_pointsTo 𝒱₀ ER (sched m) (c : Thread nD τ) none (κ₁ := K (c, some (Ck.snd t).sem)) (κ₂ := K (n, some (Ck.rcv t).sem))
    (r₁ := 0) (r₂ := 0) (d₁ := none) (d₂ := none) (fs := fs) (fd := fd)
    (by rw [duties_on m c (.snd t) ht]; exact Finset.mem_singleton_self _) (by rw [duties_on m n (.rcv t) ht]; exact Finset.mem_singleton_self _)
    () () N hN (amount_cell m c (.snd t) none) (amount_cell m n (.rcv t) none) (O₀ := ((t :: l).map (dt c)).sum) ((l.map (dt c)).sum)
    (by rw [List.map_cons, List.sum_cons, add_comm]; unfold dt; rw [if_pos ht, ← hn]) (W := w)
    (by rw [payload_cell m c (.snd t)]; exact hpay₁)
    (by rw [payload_cell m n (.rcv t)]; exact hpay₂)) $$ [Hs Hd Ht1 Ht2 HO]
  · isplitr; · iapply (inv_cell m K c (.snd t)); iexact HR
    isplitr; · iapply (inv_cell m K n (.rcv t)); iexact HR
    isplitl [Hs]; · iexact Hs
    isplitl [Hd]; · iexact Hd
    isplitl [HO]; · iexact HO
    isplitl [Ht1]; · iexact Ht1
    isplitr; · iapply (reached_cell m K c (.snd t)); iexact HR
    isplitl [Ht2]; · iexact Ht2
    iapply (reached_cell m K n (.rcv t)); iexact HR
  iintro ⟨Hc, HO⟩
  rw [wp_ret]; imodintro
  isplitl [Hc]; · iexact Hc
  iexists w
  isplitr; · (ipureintro; exact fun t ht => hw t (List.mem_cons_of_mem _ ht))
  iexact HO

end Cert.K

end
-- ==== Proof.Steps.lean ====
/-
# The body's steps, one by one

Each step of the body, from what it takes to what it leaves.
-/
module

public import proofs.«01_k».proof.Proof.Ops

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (Fin 146) → ℕ)

/-- Elements of a device's block of `x`, at what the launch found there. -/
abbrev xPt (d : Dev nD) (S : Finset S1x16384x2048.Idx) (q : PosShare TreeShare) : sProp 𝕄 :=
  ((d : Thread nD τ).loc main_arg0) ↦[S]{q} m ((d : Thread nD τ).loc main_arg0)

/-- What a copy leaves, named by contents that read the same. -/
theorem landed {κ : Kind} {sp sp' : Space} {s : Shape} {e : EltTy} (d : Thread nD τ) (dst : View sig d.2.kind sp s e) (src : View sig κ sp' s e)
    (fd : dst.ty.Contents (Elt F)) (fs : src.ty.Contents (Elt F)) (g : dst.ty.Contents (Elt F))
    (h : ∀ x, src.read (Elt F) fs x = dst.read (Elt F) g x) :
    (dst.loc d ↦[dst.set]{fullShare} (dst.write (Elt F) fd (src.read (Elt F) fs) Finset.univ) : sProp 𝕄)
      = (dst.loc d ↦[dst.set]{fullShare} g) := pointsTo_congr (written dst fd _ g h)

/-- Anything may be dropped. -/
theorem to_emp (P : sProp 𝕄) : P ⊢ iprop(emp) := by iintro -; iempintro

/-- At the first step a departure gives back the chunk's share of the sums. -/
theorem pay_first (c : Dev nD) (b : Bool) (j : Fin 8) : pay m c (.snd (.rg b 0 j)) = wPt c (chw j) (shF b) (wF m c) := rfl
/-- At later steps a departure gives back nothing. -/
theorem pay_later (c : Dev nD) (b : Bool) (s : Fin 4) (hs : s ≠ 0) (j : Fin 8) : pay m c (.snd (.rg b s j)) = iprop(emp) :=
  (show pay m c (.snd (.rg b s j)) = if s = 0 then wPt c (chw j) (shF b) (wF m c) else iprop(emp) from rfl).trans (if_neg hs)

/-- Sending the partner its chunk. -/
theorem step_p1 (c : Dev nD) (q : PosShare TreeShare) (j : Fin 8) (l : List Tr) :
    iprop(records m K ∗ ((∃ f, pPt (F := F) (ptn c) (slotP j.val) fullShare f) ∗ xPt m c (xRow c j).view.set q ∗ sendTok c (.p1 j)) ∗ Ow c 1 (.p1 j :: l))
      ⊢ W c (pP1 c j) iprop(sndCred c (.p1 j) ∗ Ow c 1 l) := by
  rw [← dP_eq]
  unfold pP1
  iintro ⟨#HR, ⟨⟨%f, Hp⟩, Hx, Ht⟩, HO⟩
  iapply (send m K c (dP c) (.p1 j) rfl (dP_eq c) 1 l (src := xRow c j) (dst := pSlot j) rfl (q := q) (m ((c : Thread nD τ).loc main_arg0)) f
    (to_emp _)
    (by
      refine (Entails.of_eq (landed (dP c : Thread nD τ) (pSlot j).view (xRow c j).view f _ (pF m (dP c)) fun x => ?_)).trans (Entails.of_eq ?_)
      · rw [dP_eq]; exact carry_p1 m c j x
      · rw [set_pSlot]; rfl))
  isplitr; · iexact HR
  isplitr [HO]
  · isplitl [Hx]; · iexact Hx
    isplitl [Hp]; · rw [set_pSlot]; iexact Hp
    iexact Ht
  iexact HO

/-- Fetching the own rows. -/
theorem step_loc (c : Dev nD) (q : PosShare TreeShare) (l : List Tr) :
    iprop(records m K ∗ ((∃ f, lPt (F := F) c Finset.univ fullShare f) ∗ xPt m c (xOwn c).view.set q ∗ dutyTok ER (cell c .loc) 0 none ∗ atPos ER (cell c .loc) 0 ∅ 0) ∗ Ow c 1 l)
      ⊢ W c (pLoc c) iprop((lPt c Finset.univ fullShare (lF m c) ∗ zero c .loc) ∗ Ow c 1 l) := by
  unfold pLoc
  iintro ⟨#HR, ⟨⟨%f, Hl⟩, Hx, Ht, Ha⟩, HO⟩
  ihave Hw := (show iprop(records m K ∗ ((lPt (F := F) c Finset.univ fullShare f) ∗ xPt m c (xOwn c).view.set q ∗ dutyTok ER (cell c .loc) 0 none))
      ⊢ W c (Prog.lift (.enqueueDma (xOwn c) (.here lM) (.dma Ck.loc.sem) ((View.wordExact_bits rfl).reshape _ _) (Memref.isWhole_whole _).wordExact ⟨Or.inl rfl, trivial⟩))
        (cred (tallyAt (cell c .loc) () N2)) from by
    unfold W; simp only [Prog.lift]
    iintro ⟨#HR, Hl, Hx, Ht⟩
    iapply (Rounds.wp_copy_pointsTo 𝒱₀ ER (sched m) (c : Thread nD τ) none (κ := K (c, some Ck.loc.sem)) (src := xOwn c) (dst := lM)
      (fs := m ((c : Thread nD τ).loc main_arg0)) (fd := f) (q := q) (r := 0) (d := none)
      (by rw [duties_on m c .loc rfl]; exact Finset.mem_singleton_self _) () N2 rfl (amount_cell m c .loc none)
      (by
        rw [payload_cell]
        refine (sep_mono_left (Entails.of_eq (landed (c : Thread nD τ) lM.view (xOwn c).view f _ (lF m c) (carry_loc m c)))).trans ?_
        rw [View.set_whole]
        unfold pay
        iintro ⟨H, -⟩; iexact H)) $$ [Hl Hx Ht]
    · isplitr; · iapply (inv_cell m K c .loc); iexact HR
      isplitl [Hx]; · iexact Hx
      isplitl [Hl]; · rw [View.set_whole]; iexact Hl
      isplitl [Ht]; · iexact Ht
      iapply (reached_cell m K c .loc); iexact HR
    iintro Hc
    rw [wp_ret]; imodintro; iexact Hc) $$ [Hl Hx Ht]
  · isplitr; · iexact HR
    isplitl [Hl]; · iexact Hl
    isplitl [Hx] <;> iassumption
  iapply W_then $$ Hw
  iintro Hc
  iapply (wait_close m K c .loc rfl 1 (by decide) l _ rfl _ _ _ _ rfl)
  isplitr; · iexact HR
  isplitr [HO]
  · isplitl [Ha]; · iexact Ha
    iexact Hc
  iexact HO

/-- Sending the sums of chunk `j` in direction `b`. -/
theorem step_first (c : Dev nD) (j : Fin 8) (b : Bool) (l : List Tr) :
    iprop(records m K ∗ (wPt c (chw j) (shF b) (wF m c) ∗ room b c 0 j ∗ sendTok c (.rg b 0 j)) ∗ Ow c 2 (.rg b 0 j :: l))
      ⊢ W c (pFirst c j b) iprop(sndCred c (.rg b 0 j) ∗ Ow c 2 l) := by
  have hact : act b 0 j = true := by revert b j; decide
  unfold room
  rw [if_pos hact, ← dN_eq]
  unfold pFirst
  iintro ⟨#HR, ⟨Hw, ⟨%f, Ho⟩, Ht⟩, HO⟩
  iapply (send m K c (dN b c) (.rg b 0 j) hact (dN_eq b c) 2 l (src := wRow j) (dst := oS b c 0 j) rfl (q := shF b) (wF m c) f
    (by rw [set_wRow, pay_first])
    (by
      refine (Entails.of_eq (landed (dN b c : Thread nD τ) (oS b c 0 j).view (wRow j).view f _ (oF m (dN b c)) fun x => ?_)).trans (Entails.of_eq ?_)
      · rw [dN_eq]; exact carry_first m b c j x
      · rw [set_oS, ← rblk_nb, ← dN_eq]; rfl))
  isplitr; · iexact HR
  isplitr [HO]
  · isplitl [Hw]; · rw [set_wRow]; iexact Hw
    isplitl [Ho]; · rw [set_oS]; iexact Ho
    iexact Ht
  iexact HO

/-- Waiting for what a step brings. -/
theorem step_recv (c : Dev nD) (s : Fin 4) (j : Fin 8) (b : Bool) (hact : act b s j = true) (k : ℕ) (hk : 3 + s.val ≤ k) (l : List Tr) :
    iprop(records m K ∗ rcvRes c (.rg b s j) ∗ Ow c k l)
      ⊢ W c (pRecv c s j b) iprop((oPt c (chk (rblk b s c) j) fullShare (oF m c) ∗ zero c (.rcv (.rg b s j))) ∗ Ow c k l) := by
  unfold rcvRes
  rw [if_pos (show (Tr.rg b s j).act = true from hact)]
  exact wait_close m K c (.rcv (.rg b s j)) hact k hk l _ rfl _ _ _ _ rfl

/-- Passing a chunk on. -/
theorem step_send (c : Dev nD) (s : Fin 4) (hs : s ≠ 0) (j : Fin 8) (b : Bool) (hact : act b s j = true) (q : PosShare TreeShare) (k : ℕ) (l : List Tr) :
    iprop(records m K ∗ (oPt c (chk (blk b s c) j) q (oF m c) ∗ room b c s j ∗ sendTok c (.rg b s j)) ∗ Ow c k (.rg b s j :: l))
      ⊢ W c (pSend c s j b) iprop(sndCred c (.rg b s j) ∗ Ow c k l) := by
  unfold room
  rw [if_pos hact, ← dN_eq]
  unfold pSend
  iintro ⟨#HR, ⟨Hw, ⟨%f, Ho⟩, Ht⟩, HO⟩
  iapply (send m K c (dN b c) (.rg b s j) hact (dN_eq b c) k l (src := oS b c s j) (dst := oS b c s j) rfl (q := q) (oF m c) f
    (by rw [pay_later m c b s hs j]; exact to_emp _)
    (by
      refine (Entails.of_eq (landed (dN b c : Thread nD τ) (oS b c s j).view (oS b c s j).view f _ (oF m (dN b c)) fun x => ?_)).trans (Entails.of_eq ?_)
      · rw [dN_eq]; exact carry_pass m b c s j x
      · rw [set_oS, ← rblk_nb, ← dN_eq]; rfl))
  isplitr; · iexact HR
  isplitr [HO]
  · isplitl [Hw]; · rw [set_oS]; iexact Hw
    isplitl [Ho]; · rw [set_oS]; iexact Ho
    iexact Ht
  iexact HO

/-- What is kept of the rows a step brings: half a share, the other lent to the next step's transfer. -/
def kept (c : Dev nD) (b : Bool) (s : Fin 4) (j : Fin 8) : sProp 𝕄 :=
  if act b s j then oPt c (chk (rblk b s c) j) (fullShare : PosShare TreeShare).left (oF m c) else iprop(emp)

/-- One chunk of one direction: what step `s` brought is passed on at step `s'`. -/
theorem step_pass (c : Dev nD) (s s' : Fin 4) (hs : s'.val = s.val + 1) (j : Fin 8) (b : Bool) (l : List Tr) :
    iprop(records m K ∗ (rcvRes c (.rg b s j) ∗ room b c s' j ∗ sendTok c (.rg b s' j)) ∗ Ow c (3 + s.val) (.rg b s' j :: l))
      ⊢ W c (pPass c s s' j b) iprop((kept m c b s j ∗ zero c (.rcv (.rg b s j)) ∗ sndCred c (.rg b s' j)) ∗ Ow c (3 + s.val) l) := by
  have hact : act b s j = true := by revert b j; revert hs; revert s s'; decide
  have hs0 : s' ≠ 0 := fun h => by rw [h] at hs; exact absurd hs (by simp)
  unfold pPass kept
  rw [if_pos hact]
  iintro ⟨#HR, ⟨Hr, Hm, Ht⟩, HO⟩
  ihave Hw := (step_recv m K c s j b hact (3 + s.val) le_rfl (.rg b s' j :: l)) $$ [Hr HO]
  · isplitr; · iexact HR
    isplitl [Hr] <;> iassumption
  iapply W_then $$ Hw
  iintro ⟨⟨Ho, Hz⟩, HO⟩
  ihave Hoo := (pointsTo_share (PosShare.mem_left_op_right (fullShare : PosShare TreeShare))).1 $$ Ho
  icases Hoo with ⟨Hl, Hr⟩
  by_cases h : act b s' j = true
  · rw [if_pos h]
    ihave Hw := (step_send m K c s' hs0 j b h (fullShare : PosShare TreeShare).right (3 + s.val) l) $$ [Hr Hm Ht HO]
    · isplitr; · iexact HR
      isplitr [HO]
      · rw [blk_succ b c s s' hs]
        isplitl [Hr]; · iexact Hr
        isplitl [Hm] <;> iassumption
      iexact HO
    iapply W_imp $$ Hw
    iintro ⟨Hc, HO⟩
    isplitr [HO]
    · isplitl [Hl]; · iexact Hl
      isplitl [Hz] <;> iassumption
    iexact HO
  · rw [if_neg h]
    have h' : act b s' j = false := by simpa using h
    iapply W_done
    isplitr [HO]
    · isplitl [Hl]; · iexact Hl
      isplitl [Hz]; · iexact Hz
      unfold sndCred; rw [if_neg (show ¬ (Tr.rg b s' j).act = true from h)]; iempintro
    iapply (Ow_skip c (3 + s.val) (.rg b s' j) l h'); iexact HO

/-- The last step's arrivals. -/
theorem step_last (c : Dev nD) (j : Fin 8) (b : Bool) :
    iprop(records m K ∗ rcvRes c (.rg b 3 j) ∗ Ow c 6 [])
      ⊢ W c (pLast c j b) iprop((kept m c b 3 j ∗ zero c (.rcv (.rg b 3 j))) ∗ Ow c 6 []) := by
  unfold pLast kept
  by_cases h : act b 3 j = true
  · rw [if_pos h, if_pos h]
    iintro ⟨#HR, Hr, HO⟩
    ihave Hw := (step_recv m K c 3 j b h 6 (by decide) []) $$ [Hr HO]
    · isplitr; · iexact HR
      isplitl [Hr] <;> iassumption
    iapply W_imp $$ Hw
    iintro ⟨⟨Ho, Hz⟩, HO⟩
    ihave Hoo := (pointsTo_share (PosShare.mem_left_op_right (fullShare : PosShare TreeShare))).1 $$ Ho
    icases Hoo with ⟨Hl, -⟩
    isplitr [HO]
    · isplitl [Hl] <;> iassumption
    iexact HO
  · have h' : act b 3 j = false := by simpa using h
    rw [if_neg h, if_neg h]
    unfold rcvRes
    iintro ⟨#HR, ⟨Ha, -⟩, HO⟩
    unfold W; rw [wp_pure]
    imod (close_off m K c (.rcv (.rg b 3 j)) h') $$ [Ha] with Hz
    · isplitr; · iexact HR
      iexact Ha
    imodintro
    isplitr [HO]
    · isplitr; · iempintro
      iexact Hz
    iexact HO

/-- The partner's chunk has left. -/
theorem step_doneP (c : Dev nD) (j : Fin 8) :
    iprop(records m K ∗ (sndPos c (.p1 j) ∗ sndCred c (.p1 j)) ∗ Ow c 6 [])
      ⊢ W c (pDoneP c j) iprop(zero c (.snd (.p1 j)) ∗ Ow c 6 []) := by
  unfold pDoneP sndPos sndCred
  rw [if_pos (show (Tr.p1 j).act = true from rfl)]
  iintro ⟨#HR, Hr, HO⟩
  ihave Hw := (wait_close m K c (.snd (.p1 j)) rfl 6 (by decide +revert) [] _ rfl (pSlot j) (xRow c j) ((View.wordExact_bits rfl).reshape _ _) ((View.wordExact_bits rfl).reshape _ _) rfl) $$ [Hr HO]
  · isplitr; · iexact HR
    isplitl [Hr]; · iexact Hr
    iexact HO
  iapply W_imp $$ Hw
  iintro ⟨⟨-, Hz⟩, HO⟩
  isplitl [Hz] <;> iassumption

/-- A first-step transfer has left: the share lent is back. -/
theorem step_done0 (c : Dev nD) (b : Bool) (j : Fin 8) :
    iprop(records m K ∗ (sndPos c (.rg b 0 j) ∗ sndCred c (.rg b 0 j)) ∗ Ow c 6 [])
      ⊢ W c (pDone0 c b j) iprop((wPt c (chw j) (shF b) (wF m c) ∗ zero c (.snd (.rg b 0 j))) ∗ Ow c 6 []) := by
  have hact : (Tr.rg b 0 j).act = true := by revert b j; decide
  unfold pDone0 sndPos sndCred
  rw [if_pos hact]
  exact wait_close m K c (.snd (.rg b 0 j)) hact 6 (by decide +revert) [] _ rfl _ _ _ _ rfl

/-- A later transfer has left, or was not made. -/
theorem step_doneS (c : Dev nD) (b : Bool) (s : Fin 4) (j : Fin 8) :
    iprop(records m K ∗ (sndPos c (.rg b s j) ∗ sndCred c (.rg b s j)) ∗ Ow c 6 [])
      ⊢ W c (pDoneS c b s j) iprop(zero c (.snd (.rg b s j)) ∗ Ow c 6 []) := by
  unfold pDoneS sndPos sndCred
  by_cases h : act b s j = true
  · rw [if_pos h, if_pos (show (Tr.rg b s j).act = true from h)]
    iintro ⟨#HR, Hr, HO⟩
    ihave Hw := (wait_close m K c (.snd (.rg b s j)) h 6 (Nat.zero_le _) [] _ rfl (oS b c s j) (oS b c s j) (View.wordExact_bits rfl) (View.wordExact_bits rfl) rfl) $$ [Hr HO]
    · isplitr; · iexact HR
      isplitl [Hr]; · iexact Hr
      iexact HO
    iapply W_imp $$ Hw
    iintro ⟨⟨-, Hz⟩, HO⟩
    isplitl [Hz] <;> iassumption
  · have h' : act b s j = false := by simpa using h
    rw [if_neg h]
    iintro ⟨#HR, ⟨Ha, -⟩, HO⟩
    unfold W; rw [wp_pure]
    imod (close_off m K c (.snd (.rg b s j)) h') $$ [Ha] with Hz
    · isplitr; · iexact HR
      iexact Ha
    imodintro
    isplitl [Hz] <;> iassumption

/-- Starting the copy of the sums into the result. -/
theorem step_out (c : Dev nD) :
    iprop(records m K ∗ wPt c Finset.univ shO (wF m c) ∗ (∃ f, oPt (F := F) c (rowsO (2048 * pos c) 2048) fullShare f) ∗ dutyTok ER (cell c .out) 0 none)
      ⊢ W c (pOut c) (cred (tallyAt (cell c .out) () N2)) := by
  unfold pOut W; simp only [Prog.lift]
  iintro ⟨#HR, Hw, ⟨%f, Ho⟩, Ht⟩
  iapply (Rounds.wp_copy_pointsTo 𝒱₀ ER (sched m) (c : Thread nD τ) none (κ := K (c, some Ck.out.sem)) (src := wM) (dst := oOwn c)
    (fs := wF m c) (fd := f) (q := shO) (r := 0) (d := none)
    (by rw [duties_on m c .out rfl]; exact Finset.mem_singleton_self _) () N2 rfl (amount_cell m c .out none)
    (by
      rw [payload_cell]
      refine (sep_mono_left (Entails.of_eq (landed (c : Thread nD τ) (oOwn c).view wM.view f _ (oF m c) (carry_out m c)))).trans ?_
      rw [View.set_whole, set_oOwn]
      exact Entails.refl _)) $$ [Hw Ho Ht]
  · isplitr; · iapply (inv_cell m K c .out); iexact HR
    isplitl [Hw]; · rw [View.set_whole]; iexact Hw
    isplitl [Ho]; · rw [set_oOwn]; iexact Ho
    isplitl [Ht]; · iexact Ht
    iapply (reached_cell m K c .out); iexact HR
  iintro Hc
  rw [wp_ret]; imodintro; iexact Hc

/-- Waiting for it. -/
theorem step_outW (c : Dev nD) :
    iprop(records m K ∗ (atPos ER (cell c .out) 0 ∅ 0 ∗ cred (tallyAt (cell c .out) () N2)) ∗ Ow c 6 [])
      ⊢ W c (pOutW c) iprop(((oPt c (rowsO (2048 * pos c) 2048) fullShare (oF m c) ∗ wPt c Finset.univ shO (wF m c)) ∗ zero c .out) ∗ Ow c 6 []) := by
  unfold pOutW
  exact wait_close m K c .out rfl 6 (by decide) [] _ rfl _ _ _ _ rfl

/-- What the loads of a chunk touch. -/
theorem on_pRect (j : Fin 8) : pM.view.setOn (Rect.unit (s := S8x256x1024) ![j.val, 0, 0] S1x256x1024.size (slot_inb j)).toLoadRect.set = slotP j.val :=
  (View.set_slice pM.view (Rect.unit (s := S8x256x1024) ![j.val, 0, 0] S1x256x1024.size (slot_inb j))).symm.trans
    ((View.set_slice_whole cc0_scratch0 (Rect.unit (s := S8x256x1024) ![j.val, 0, 0] S1x256x1024.size (slot_inb j))).trans (set_pRect j))
/-- What the store of a chunk touches. -/
theorem on_wRect (j : Fin 8) : wM.view.setOn (Rect.unit (s := S2048x1024) ![256 * j.val, 0] S256x1024.size (row_inb j)).toLoadRect.set = chw j :=
  (View.set_slice wM.view (Rect.unit (s := S2048x1024) ![256 * j.val, 0] S256x1024.size (row_inb j))).symm.trans
    ((View.set_slice_whole cc0_scratch2 (Rect.unit (s := S2048x1024) ![256 * j.val, 0] S256x1024.size (row_inb j))).trans (set_wRect j))

/-- The loads, the sum and the store of a chunk. -/
theorem step_sum (c : Dev nD) (j : Fin 8) (f : S2048x1024.Idx → F .f32) :
    iprop(lPt c Finset.univ fullShare (lF m c) ∗ pPt c (slotP j.val) fullShare (pF m c) ∗ wPt (F := F) c (chw j) fullShare f)
      ⊢ W c (do
          let v : Vec F S256x1024 .f32 ← Prog.lift (.load lM (Rect.unit (s := S2048x1024) ![256 * j.val, 0] S256x1024.size (row_inb j)).toLoadRect (View.loadsAt_vmem h_S256x1024))
          let v' : Vec F S1x256x1024 .f32 ← Prog.lift (.load pM (Rect.unit (s := S8x256x1024) ![j.val, 0, 0] S1x256x1024.size (slot_inb j)).toLoadRect (View.loadsAt_vmem h_S1x256x1024))
          let _ : Vec F S256x1024 .f32 ← Prog.lift (.load wM (Rect.unit (s := S2048x1024) ![256 * j.val, 0] S256x1024.size (row_inb j)).toLoadRect (View.loadsAt_vmem h_S256x1024))
          Prog.lift (.store wM (Rect.unit (s := S2048x1024) ![256 * j.val, 0] S256x1024.size (row_inb j)) (payF v v') Finset.univ (View.stores_vmem_bits_univ h_S256x1024 rfl) (.inl rfl)))
        iprop(lPt c Finset.univ fullShare (lF m c) ∗ pPt c (slotP j.val) fullShare (pF m c) ∗ wPt c (chw j) fullShare (wF m c)) := by
  unfold W
  simp only [Prog.lift, Prog.bind_op, Prog.bind_ret, Prog.pure_eq_ret]
  iintro ⟨Hl, Hp, Hw⟩
  iapply (wp_load 𝒱₀ (c : Thread nD τ) none Set.univ (m := lM) (Finset.subset_univ _)) $$ Hl; iintro Hl
  iapply (wp_load 𝒱₀ (c : Thread nD τ) none Set.univ (m := pM) (S := slotP j.val) (on_pRect j).subset) $$ Hp; iintro Hp
  iapply (wp_load 𝒱₀ (c : Thread nD τ) none Set.univ (m := wM) (S := chw j) (on_wRect j).subset) $$ Hw; iintro Hw
  iapply (wp_store 𝒱₀ (c : Thread nD τ) none Set.univ (m := wM) (r := (Rect.unit (s := S2048x1024) ![256 * j.val, 0] S256x1024.size (row_inb j)))
    (Mk := Finset.univ) (S := chw j) (by rw [← set_wRow]; exact Finset.Subset.refl _)) $$ Hw; iintro Hw
  rw [wp_ret]; imodintro
  isplitl [Hl]; · iexact Hl
  isplitl [Hp]; · iexact Hp
  ihave Hw' := (Entails.of_eq (pointsTo_congr (fun i hi => written (wRow j).view f _ (wF m c) (fun x => sum_row m c j x) i (by rw [set_wRow]; exact hi)))) $$ Hw
  iexact Hw'

/-- Adding the partner's chunk to the own rows. -/
theorem step_add (c : Dev nD) (j : Fin 8) (l : List Tr) :
    iprop(records m K ∗ (rcvRes c (.p1 j) ∗ (∃ f, wPt (F := F) c (chw j) fullShare f) ∗ lPt c Finset.univ fullShare (lF m c)) ∗ Ow c 2 l)
      ⊢ W c (pAdd c j) iprop((zero c (.rcv (.p1 j)) ∗ pPt c (slotP j.val) fullShare (pF m c) ∗ wPt c (chw j) fullShare (wF m c)
          ∗ lPt c Finset.univ fullShare (lF m c)) ∗ Ow c 2 l) := by
  unfold pAdd rcvRes
  iintro ⟨#HR, ⟨Hr, ⟨%f, Hw⟩, Hl⟩, HO⟩
  ihave Hwp := (wait_close m K c (.rcv (.p1 j)) rfl 2 (by decide +revert) l _ rfl (xRow c j) (pSlot j) ((View.wordExact_bits rfl).reshape _ _) ((View.wordExact_bits rfl).reshape _ _) rfl) $$ [Hr HO]
  · isplitr; · iexact HR
    isplitl [Hr]; · iexact Hr
    iexact HO
  iapply W_then $$ Hwp
  rw [show pay m c (.rcv (.p1 j)) = pPt c (slotP j.val) fullShare (pF m c) from rfl]
  iintro ⟨⟨Hp, Hz⟩, HO⟩
  ihave Hs := (step_sum m c j f) $$ [Hl Hp Hw]
  · isplitl [Hl]; · iexact Hl
    isplitl [Hp]; · iexact Hp
    iexact Hw
  iapply W_imp $$ Hs
  iintro ⟨Hl, Hp, Hw⟩
  isplitr [HO]
  · isplitl [Hz]; · iexact Hz
    isplitl [Hp]; · iexact Hp
    isplitl [Hw] <;> iassumption
  iexact HO

/-- The three signals and the wait for three. -/
theorem step_bar (c : Dev nD) (l : List Tr) (hl : ∀ t ∈ l, 1 < lvT t) (w : Waits sig Unit) :
    iprop(records m K ∗ (dutyTok ER (bar (ptn c)) 0 none ∗ dutyTok ER (bar (nb false c)) 0 (some true) ∗ dutyTok ER (bar (nb true c)) 0 (some false))
        ∗ (barPay (F := F) (ptn c) none ∗ barPay (F := F) (nb false c) (some true) ∗ barPay (F := F) (nb true c) (some false))
        ∗ (atPos ER (bar c) 0 ∅ 0 ∗ cred (tallyAt (bar c) () 3))
        ∗ owes (c : Thread nD τ) ((((l.map (dt c)).sum + tallyAt (bar (nb true c)) () 1) + tallyAt (bar (nb false c)) () 1) + tallyAt (bar (ptn c)) () 1) w)
      ⊢ W c (pBar c) iprop(((barPay (F := F) c none ∗ barPay (F := F) c (some true) ∗ barPay (F := F) c (some false)) ∗ semVal (bar c) 0) ∗ Ow c 1 l) := by
  unfold pBar W
  rw [dP_eq, dN_eq, dN_eq]
  simp only [semSignalWord, semWaitWord, Prog.lift, Prog.bind_op, Prog.bind_ret, Prog.pure_eq_ret]
  iintro ⟨#HR, ⟨Ht1, Ht2, Ht3⟩, ⟨Hp1, Hp2, Hp3⟩, ⟨Hat, Hc⟩, HO⟩
  iapply (Rounds.wp_signal 𝒱₀ ER (sched m) (c : Thread nD τ) none (dst := (ptn c : Thread nD τ)) (κ := K (ptn c, none))
      (d := none) (by rw [duties_bar]; exact Finset.mem_univ _) ((amount_bar m (ptn c) none).trans (by decide)) () _ rfl)
    $$ [HO Ht1 Hp1]
  · isplitr; · iapply (inv_bar m K (ptn c)); iexact HR
    isplitl [HO]; · iexact HO
    isplitl [Ht1]; · iexact Ht1
    isplitl [Hp1]; · rw [payload_bar]; iexact Hp1
    iapply (reached_bar m K (ptn c)); iexact HR
  iintro HO
  iapply (Rounds.wp_signal 𝒱₀ ER (sched m) (c : Thread nD τ) none (dst := (nb false c : Thread nD τ)) (κ := K (nb false c, none))
      (d := some true) (by rw [duties_bar]; exact Finset.mem_univ _) ((amount_bar m (nb false c) (some true)).trans (by decide)) () _ rfl)
    $$ [HO Ht2 Hp2]
  · isplitr; · iapply (inv_bar m K (nb false c)); iexact HR
    isplitl [HO]; · iexact HO
    isplitl [Ht2]; · iexact Ht2
    isplitl [Hp2]; · rw [payload_bar]; iexact Hp2
    iapply (reached_bar m K (nb false c)); iexact HR
  iintro HO
  iapply (Rounds.wp_signal 𝒱₀ ER (sched m) (c : Thread nD τ) none (dst := (nb true c : Thread nD τ)) (κ := K (nb true c, none))
      (d := some false) (by rw [duties_bar]; exact Finset.mem_univ _) ((amount_bar m (nb true c) (some false)).trans (by decide)) () _ rfl)
    $$ [HO Ht3 Hp3]
  · isplitr; · iapply (inv_bar m K (nb true c)); iexact HR
    isplitl [HO]; · iexact HO
    isplitl [Ht3]; · iexact Ht3
    isplitl [Hp3]; · rw [payload_bar]; iexact Hp3
    iapply (reached_bar m K (nb true c)); iexact HR
  iintro HO
  iapply (Rounds.wp_wait_rest_token 𝒱₀ ER (sched m) (c : Thread nD τ) none (κ := K (c, none))
      (wpE_semWait_eq 𝒱₀ (c : Thread nD τ) none Set.univ) (Set.mem_univ _) () (O := (l.map (dt c)).sum) (W := w) (R := 0) (m := 0) (T := ∅)
      (by rw [expect_bar]; decide)) $$ [Hat Hc HO]
  · isplitr; · iapply (inv_bar m K c); iexact HR
    isplitl [Hc]; · iexact Hc
    isplitl [HO]; · iexact HO
    isplitr; · iapply (mayWait c (.reg barS) 1 le_rfl l hl); iapply (levels m K); iexact HR
    iexact Hat
  iintro ⟨HO, Hat, -, Hpay⟩
  ihave Hp := (Entails.of_eq (rest_bar m c)) $$ Hpay
  imod (Rounds.cell_close ER (sched m) (Set.mem_univ (K (c, none))) (fun h => h) (R := 0 + 1) (duties_later m (bar c))) $$ [Hat] with Hz
  · isplitr; · iapply (inv_bar m K c); iexact HR
    iexact Hat
  rw [wp_ret]; imodintro
  isplitr [HO]
  · isplitl [Hp] <;> iassumption
  unfold Ow
  iexists (insert (SemLoc.reg barS, ()) w)
  isplitr; · (ipureintro; exact hl)
  iexact HO

end Cert.K

end
-- ==== Proof.Lists.lean ====
/-
# Separate holdings along lists; the pieces of the buffers
-/
module

public import proofs.«01_k».proof.Proof.Steps
public import Idealize.ShloMosaic.Lib.Transfers

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Along lists -/

section Lists
variable {M : Type} [URA M] {I J : Type}

/-- Two assertions that give each other are equal. -/
theorem both_ways {P Q : sProp M} (h : P ⊢ Q) (h' : Q ⊢ P) : P = Q := equiv_iff.mp ⟨h, h'⟩

/-- The first two of three may change places. -/
theorem swap_to (P Q R : sProp M) : iprop(P ∗ Q ∗ R) ⊢ iprop(Q ∗ P ∗ R) := by
  iintro ⟨H1, H2, H3⟩
  isplitl [H2]; · iexact H2
  isplitl [H1] <;> iassumption
/-- Changing the first two of three is an equality. -/
theorem swap_eq (P Q R : sProp M) : iprop(P ∗ Q ∗ R) = iprop(Q ∗ P ∗ R) := both_ways (swap_to _ _ _) (swap_to _ _ _)
/-- The middle two of four may change places. -/
theorem four_to (P Q R S : sProp M) : iprop((P ∗ Q) ∗ R ∗ S) ⊢ iprop((P ∗ R) ∗ Q ∗ S) := by
  iintro ⟨⟨H1, H2⟩, H3, H4⟩
  isplitl [H1 H3]
  · isplitl [H1] <;> iassumption
  isplitl [H2] <;> iassumption

/-- The order of a list does not matter. -/
theorem list_perm {l l' : List I} (h : l.Perm l') (Φ : I → sProp M) : bigSepL l Φ = bigSepL l' Φ := by
  induction h with
  | nil => rfl
  | cons a _ ih => rw [bigSepL_cons', bigSepL_cons', ih]
  | swap a b l => rw [bigSepL_cons', bigSepL_cons', bigSepL_cons', bigSepL_cons']; exact swap_eq _ _ _
  | trans _ _ ih ih' => exact ih.trans ih'

/-- Equal things for the members of a list are equal along it. -/
theorem list_congr (l : List I) {Φ Ψ : I → sProp M} (h : ∀ i ∈ l, Φ i = Ψ i) : bigSepL l Φ = bigSepL l Ψ := by
  induction l with
  | nil => rfl
  | cons a l ih => rw [bigSepL_cons', bigSepL_cons', h a List.mem_cons_self, ih fun i hi => h i (List.mem_cons_of_mem _ hi)]

/-- Pairs along a list are a pair of lists. -/
theorem list_sep (l : List I) (Φ Ψ : I → sProp M) : bigSepL l (fun i => iprop(Φ i ∗ Ψ i)) = iprop(bigSepL l Φ ∗ bigSepL l Ψ) := by
  induction l with
  | nil => exact (equiv_iff.mp BI.emp_sep).symm
  | cons a l ih =>
    rw [bigSepL_cons', bigSepL_cons', bigSepL_cons', ih]
    exact both_ways (four_to _ _ _ _) (four_to _ _ _ _)

/-- Along a list of lists joined, list by list. -/
theorem list_flat (g : I → List J) (l : List I) (Φ : J → sProp M) : bigSepL (l.flatMap g) Φ = bigSepL l fun i => bigSepL (g i) Φ := by
  induction l with
  | nil => rfl
  | cons a l ih => rw [List.flatMap_cons, bigSepL_append, bigSepL_cons', ih]

/-- Along the members that pass a test: nothing for the others. -/
theorem list_filter (p : I → Bool) (l : List I) (Φ : I → sProp M) : bigSepL (l.filter p) Φ = bigSepL l fun i => if p i then Φ i else iprop(emp) := by
  induction l with
  | nil => rfl
  | cons a l ih =>
    rw [bigSepL_cons', ← ih]
    by_cases h : p a = true
    · rw [List.filter_cons_of_pos h, bigSepL_cons', if_pos h]
    · rw [List.filter_cons_of_neg h, if_neg h]; exact (equiv_iff.mp BI.emp_sep).symm

end Lists

/-- A program along two lists joined is one after the other. -/
theorem seqL_append {α : Type} (l l' : List α) (f : α → Prog (PE F) PUnit) : seqL (l ++ l') f = (seqL l f >>= fun _ => seqL l' f) := by
  induction l with
  | nil => rfl
  | cons a l ih =>
    show (f a >>= fun _ => seqL (l ++ l') f) = ((f a >>= fun _ => seqL l f) >>= fun _ => seqL l' f)
    rw [ih]; exact (Prog.bind_assoc _ _ _).symm
/-- A program along a list of lists joined, list by list. -/
theorem seqL_flat {α β : Type} (g : α → List β) (l : List α) (f : β → Prog (PE F) PUnit) : seqL (l.flatMap g) f = seqL l fun a => seqL (g a) f := by
  induction l with
  | nil => rfl
  | cons a l ih => rw [List.flatMap_cons, seqL_append, ih]; rfl
/-- A program along a list of images. -/
theorem seqL_map {α β : Type} (g : α → β) (l : List α) (f : β → Prog (PE F) PUnit) : seqL (l.map g) f = seqL l fun a => f (g a) := by
  induction l with
  | nil => rfl
  | cons a l ih =>
    show (f (g a) >>= fun _ => seqL (l.map g) f) = (f (g a) >>= fun _ => seqL l fun a => f (g a))
    rw [ih]

/-! ## The transfers, listed -/

abbrev jb : List (Fin 8 × Bool) := fin8.flatMap fun j => dirs.map fun b => (j, b)
abbrev rgT (s : Fin 4) (p : Fin 8 × Bool) : Tr := .rg p.2 s p.1
/-- The ring's transfers of a step; of all; all transfers. -/
abbrev rgL (s : Fin 4) : List Tr := jb.map (rgT s)
abbrev ringT : List Tr := rgL 0 ++ (rgL 1 ++ (rgL 2 ++ rgL 3))
abbrev allT : List Tr := fin8.map Tr.p1 ++ ringT

/-- All transfers: the partner's, then the ring's, step by step. -/
theorem all_split {M : Type} [URA M] (Φ : Tr → sProp M) : bigSepL allT Φ
    = iprop((bigSepL fin8 fun j => Φ (.p1 j)) ∗ (bigSepL jb fun p => Φ (rgT 0 p)) ∗ (bigSepL jb fun p => Φ (rgT 1 p)) ∗ (bigSepL jb fun p => Φ (rgT 2 p))
      ∗ (bigSepL jb fun p => Φ (rgT 3 p))) := by
  unfold allT ringT rgL
  rw [bigSepL_append, bigSepL_append, bigSepL_append, bigSepL_append, bigSepL_map, bigSepL_map, bigSepL_map, bigSepL_map, bigSepL_map]
/-- The ring's transfers, step by step. -/
theorem ring_split {M : Type} [URA M] (Φ : Tr → sProp M) : bigSepL ringT Φ
    = iprop((bigSepL jb fun p => Φ (rgT 0 p)) ∗ (bigSepL jb fun p => Φ (rgT 1 p)) ∗ (bigSepL jb fun p => Φ (rgT 2 p))
      ∗ (bigSepL jb fun p => Φ (rgT 3 p))) := by
  unfold ringT rgL
  rw [bigSepL_append, bigSepL_append, bigSepL_append, bigSepL_map, bigSepL_map, bigSepL_map, bigSepL_map]

/-- One direction's transfers, by step; all by direction. -/
abbrev dirL (b : Bool) : List Tr := s4.flatMap fun s => fin8.map fun j => .rg b s j
/-- The partner's transfers and each direction's are all transfers. -/
theorem byDir : (fin8.map Tr.p1 ++ (dirL true ++ dirL false)).Perm allT := by decide +kernel

/-! ## Room handed over at the barrier -/

/-- The room a device gets for each of its transfers. -/
def roomT (c : Dev nD) : Tr → sProp 𝕄
  | .p1 j => iprop(∃ f, pPt (F := F) (ptn c) (slotP j.val) fullShare f)
  | .rg b s j => room b c s j
/-- The room it gives for each that comes to it. -/
def ownT (c : Dev nD) : Tr → sProp 𝕄
  | .p1 j => iprop(∃ f, pPt (F := F) c (slotP j.val) fullShare f)
  | .rg b s j => if act b s j then iprop(∃ f, oPt (F := F) c (chk (rblk b s c) j) fullShare f) else iprop(emp)

/-- What the three signals hand a device is the room for all its transfers. -/
theorem bar_gets (c : Dev nD) : iprop(barPay (F := F) c none ∗ barPay (F := F) c (some true) ∗ barPay (F := F) c (some false)) = bigSepL allT (roomT (F := F) c) := by
  have hd (b : Bool) : barPay (F := F) c (some b) = bigSepL (dirL b) (roomT (F := F) c) := by
    rw [list_flat]; exact list_congr _ fun s _ => (bigSepL_map _ _ _).symm
  have hp : barPay (F := F) c none = bigSepL (fin8.map Tr.p1) (roomT (F := F) c) := (bigSepL_map _ _ _).symm
  rw [← list_perm byDir, bigSepL_append, bigSepL_append, hd, hd, hp]
/-- What a device hands over with its three signals is the room for all that comes to it. -/
theorem bar_gives (c : Dev nD) : bigSepL allT (ownT (F := F) c)
    = iprop(barPay (F := F) (ptn c) none ∗ barPay (F := F) (nb false c) (some true) ∗ barPay (F := F) (nb true c) (some false)) := by
  have hd (b : Bool) : barPay (F := F) (nb (!b) c) (some b) = bigSepL (dirL b) (ownT (F := F) c) := by
    rw [list_flat]
    refine list_congr _ fun s _ => ((list_congr _ fun j _ => ?_).trans (bigSepL_map _ _ _).symm)
    show room b (nb (!b) c) s j = if act b s j then iprop(∃ f, oPt (F := F) c (chk (rblk b s c) j) fullShare f) else iprop(emp)
    unfold room; rw [nb_nb, blk_nb]
  have hp : barPay (F := F) (ptn c) none = bigSepL (fin8.map Tr.p1) (ownT (F := F) c) := by
    refine Eq.trans ?_ (bigSepL_map _ _ _).symm
    unfold barPay; rw [ptn_ptn]; rfl
  rw [← list_perm byDir, bigSepL_append, bigSepL_append, ← hd true, ← hd false, hp]; rfl

/-! ## The buffers, in pieces -/

/-- Which elements of the result are in given rows. -/
theorem rowsO_mem (n k : ℕ) (i : S16384x1024.Idx) : i ∈ rowsO n k ↔ n ≤ (i 0).val ∧ (i 0).val < n + k := by
  unfold rowsO; rw [Finset.mem_filter]; exact ⟨fun h => h.2, fun h => ⟨Finset.mem_univ _, h⟩⟩
/-- Which elements of the sums are in given rows. -/
theorem rowsW_mem (n k : ℕ) (i : S2048x1024.Idx) : i ∈ rowsW n k ↔ n ≤ (i 0).val ∧ (i 0).val < n + k := by
  unfold rowsW; rw [Finset.mem_filter]; exact ⟨fun h => h.2, fun h => ⟨Finset.mem_univ _, h⟩⟩
/-- Which elements of the landing buffer are in a slot. -/
theorem slotP_mem (n : ℕ) (i : S8x256x1024.Idx) : i ∈ slotP n ↔ (i 0).val = n := by
  unfold slotP; rw [Finset.mem_filter]; exact ⟨fun h => h.2, fun h => ⟨Finset.mem_univ _, h⟩⟩

/-- A set of elements in eight disjoint parts. -/
theorem eight_parts {ℓ : Loc nD τ sig} (S : Finset (Idx ℓ)) (T : Fin 8 → Finset (Idx ℓ)) (q : PosShare TreeShare) (f : Buf (Elt F) ℓ)
    (hS : ∀ i, i ∈ S ↔ ∃ j, i ∈ T j) (hd : ∀ i j j', i ∈ T j → i ∈ T j' → j = j') :
    (ℓ ↦[S]{q} f : sProp 𝕄) = bigSepL fin8 fun j => ℓ ↦[T j]{q} f := by
  rw [← bigSep_univ_eq_bigSepL fin8 (by decide) (by decide)]
  rw [show S = Finset.univ.biUnion T from Finset.ext fun i => by rw [hS, Finset.mem_biUnion]; exact ⟨fun ⟨j, h⟩ => ⟨j, Finset.mem_univ _, h⟩, fun ⟨j, _, h⟩ => ⟨j, h⟩⟩]
  exact pointsTo_biUnion (ℓ := ℓ) (q := q) (f := f) (Finset.univ : Finset (Fin 8)) T fun t _ t' _ hne =>
    Finset.disjoint_left.mpr fun i h h' => hne (hd i t t' h h')

/-- The landing buffer by slots. -/
theorem p_parts (c : Dev nD) (q : PosShare TreeShare) (f : S8x256x1024.Idx → F .f32) :
    pPt c Finset.univ q f = bigSepL fin8 fun j => pPt (F := F) c (slotP j.val) q f :=
  eight_parts (ℓ := (c : Thread nD τ).loc cc0_scratch0) Finset.univ (fun j => slotP j.val) q f
    (fun i => ⟨fun _ => ⟨⟨(i 0).val, (i 0).isLt⟩, (slotP_mem _ i).mpr rfl⟩, fun _ => Finset.mem_univ _⟩)
    (fun i j j' h h' => Fin.ext (((slotP_mem _ i).mp h).symm.trans ((slotP_mem _ i).mp h')))
/-- The sums by chunks. -/
theorem w_parts (c : Dev nD) (q : PosShare TreeShare) (f : S2048x1024.Idx → F .f32) :
    wPt c Finset.univ q f = bigSepL fin8 fun j => wPt (F := F) c (chw j) q f :=
  eight_parts (ℓ := (c : Thread nD τ).loc cc0_scratch2) Finset.univ (fun j => chw j) q f
    (fun i => ⟨fun _ => by
      have h : (i 0).val < 2048 := (i 0).isLt
      exact ⟨⟨(i 0).val / 256, by omega⟩, (rowsW_mem _ _ i).mpr ⟨by show 256 * ((i 0).val / 256) ≤ _; omega, by show _ < 256 * ((i 0).val / 256) + 256; omega⟩⟩,
      fun _ => Finset.mem_univ _⟩)
    (fun i j j' h h' => Fin.ext (by have := (rowsW_mem _ _ i).mp h; have := (rowsW_mem _ _ i).mp h'; omega))
/-- A block of the result by chunks. -/
theorem blk_parts (c : Dev nD) (n : ℕ) (q : PosShare TreeShare) (f : S16384x1024.Idx → F .f32) :
    oPt c (rowsO (2048 * n) 2048) q f = bigSepL fin8 fun j => oPt (F := F) c (chk n j) q f :=
  eight_parts (ℓ := (c : Thread nD τ).loc main_v1) (rowsO (2048 * n) 2048) (fun j => chk n j) q f
    (fun i => ⟨fun h => by
      have h := (rowsO_mem _ _ i).mp h
      exact ⟨⟨((i 0).val - 2048 * n) / 256, by omega⟩, (rowsO_mem _ _ i).mpr ⟨by show 2048 * n + 256 * (((i 0).val - 2048 * n) / 256) ≤ _; omega, by show _ < 2048 * n + 256 * (((i 0).val - 2048 * n) / 256) + 256; omega⟩⟩,
      fun ⟨j, h⟩ => by have := (rowsO_mem _ _ i).mp h; have := j.isLt; exact (rowsO_mem _ _ i).mpr (by omega)⟩)
    (fun i j j' h h' => Fin.ext (by have := (rowsO_mem _ _ i).mp h; have := (rowsO_mem _ _ i).mp h'; omega))
/-- The result by blocks. -/
theorem o_blocks (c : Dev nD) (q : PosShare TreeShare) (f : S16384x1024.Idx → F .f32) :
    oPt c Finset.univ q f = bigSepL fin8 fun n => oPt (F := F) c (rowsO (2048 * n.val) 2048) q f :=
  eight_parts (ℓ := (c : Thread nD τ).loc main_v1) Finset.univ (fun n => rowsO (2048 * n.val) 2048) q f
    (fun i => ⟨fun _ => by
      have h : (i 0).val < 16384 := (i 0).isLt
      exact ⟨⟨(i 0).val / 2048, by omega⟩, (rowsO_mem _ _ i).mpr ⟨by show 2048 * ((i 0).val / 2048) ≤ _; omega, by show _ < 2048 * ((i 0).val / 2048) + 2048; omega⟩⟩,
      fun _ => Finset.mem_univ _⟩)
    (fun i j j' h h' => Fin.ext (by have := (rowsO_mem _ _ i).mp h; have := (rowsO_mem _ _ i).mp h'; omega))

/-- The chunk a transfer brings to a device. -/
def ckT (c : Dev nD) : Tr → ℕ × Fin 8
  | .p1 j => (0, j)
  | .rg b s j => (rblk b s c, j)

/-- The chunks of the result: those of the own block and those the transfers bring. -/
theorem chunks (c : Dev nD) : (fin8.flatMap fun n => fin8.map fun j => (n.val, j)).Perm
    (fin8.map (fun j => (pos c, j)) ++ (ringT.filter Tr.act).map (ckT c)) := by
  revert c; decide +kernel

/-- What is held of the rows each transfer brings. -/
def gotT (c : Dev nD) (q : PosShare TreeShare) (f : S16384x1024.Idx → F .f32) (t : Tr) : sProp 𝕄 :=
  if t.act then oPt (F := F) c (chk (ckT c t).1 (ckT c t).2) q f else iprop(emp)

/-- The result: the own block, and what the transfers bring. -/
theorem o_parts (c : Dev nD) (q : PosShare TreeShare) (f : S16384x1024.Idx → F .f32) :
    oPt c Finset.univ q f = iprop(oPt (F := F) c (rowsO (2048 * pos c) 2048) q f ∗ bigSepL ringT (gotT c q f)) := by
  have h := list_perm (chunks c) (fun p : ℕ × Fin 8 => (oPt (F := F) c (chk p.1 p.2) q f : sProp 𝕄))
  rw [bigSepL_append, bigSepL_map, bigSepL_map, list_filter, list_flat] at h
  rw [o_blocks, list_congr fin8 fun n _ => blk_parts c n.val q f, blk_parts]
  refine Eq.trans ?_ h
  exact list_congr _ fun n _ => (bigSepL_map _ _ _).symm

end Cert.K

end
-- ==== Proof.BodyEq.lean ====
/-
# The printed body is the loops of `Prog`
-/
module

public import proofs.«01_k».proof.Proof.Prog

@[expose] public section

set_option maxRecDepth 65536

noncomputable section

namespace Cert.K

open Cert.KernelIdeal Cert.KernelIdeal.Gen
open Idealize.ShloMosaic Idealize.ShloMosaic.TcCoe Idealize.SL.Sem

variable {F : FTy → Type} [FloatOps F]

set_option maxHeartbeats 0 in
/-- The printed body is these loops. -/
theorem body_eq : cc0_body (F := F) (Memref.whole main_arg0) (Memref.isWhole_whole _) (Memref.whole main_v1) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6 cc0_scratch7 cc0_scratch8 cc0_scratch9 cc0_scratch10
    = .op .deviceId fun d => prog d := rfl

end Cert.K

end
-- ==== Proof.Body.lean ====
/-
# The body, phase by phase, and whole
-/
module

public import proofs.«01_k».proof.Proof.Lists
public import proofs.«01_k».proof.Proof.BodyEq

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (Fin 146) → ℕ) (c : Dev nD)

/-! ## The phases -/

/-- The chunks to the partner. -/
theorem phase_p1 :
    iprop(records m K ∗ (bigSepL fin8 fun j => iprop(roomT (F := F) c (.p1 j) ∗ xPt m c (xRow c j).view.set (Transfers.shareTok fullShare 8 j) ∗ sendTok c (.p1 j))) ∗ Ow c 1 allT)
      ⊢ W c (seqL fin8 fun j => pP1 c j) iprop((bigSepL fin8 fun j => sndCred c (.p1 j)) ∗ Ow c 1 ringT) :=
  W_list (records m K) _ _ (fun l => Ow c 1 (l.map Tr.p1 ++ ringT)) _ (fun j l => step_p1 m K c _ j (l.map Tr.p1 ++ ringT)) fin8

/-- What each chunk of the sums takes and leaves. -/
def addA (j : Fin 8) : sProp 𝕄 :=
  iprop(rcvRes c (.p1 j) ∗ (∃ f, wPt (F := F) c (chw j) fullShare f) ∗ bigSepL dirs fun b => iprop(room b c 0 j ∗ sendTok c (.rg b 0 j)))
def addB (j : Fin 8) : sProp 𝕄 :=
  iprop(zero c (.rcv (.p1 j)) ∗ pPt c (slotP j.val) fullShare (pF m c) ∗ wPt c (chw j) shO (wF m c) ∗ bigSepL dirs fun b => sndCred c (.rg b 0 j))

/-- A chunk's sum lent to both directions' first transfers. -/
theorem first_two (j : Fin 8) (l : List Tr) :
    iprop(records m K ∗ (bigSepL dirs fun b => iprop(wPt c (chw j) (shF b) (wF m c) ∗ room b c 0 j ∗ sendTok c (.rg b 0 j))) ∗ Ow c 2 (dirs.map (fun b => Tr.rg b 0 j) ++ l))
      ⊢ W c (seqL dirs fun b => pFirst c j b) iprop((bigSepL dirs fun b => sndCred c (.rg b 0 j)) ∗ Ow c 2 l) :=
  W_list (records m K) _ _ (fun r => Ow c 2 (r.map (fun b => Tr.rg b 0 j) ++ l)) _ (fun b r => step_first m K c j b (r.map (fun b => Tr.rg b 0 j) ++ l)) dirs

/-- Along the two directions: the right one, then the left one. -/
theorem two_dirs {M : Type} [URA M] (Φ : Bool → sProp M) : bigSepL dirs Φ = iprop(Φ true ∗ Φ false) := rfl

/-- A chunk of the sums in three shares: one for each direction's first transfer, one for the copy into the result. -/
theorem w_shares (j : Fin 8) : wPt c (chw j) fullShare (wF m c)
    ⊢ iprop((bigSepL dirs fun b => wPt c (chw j) (shF b) (wF m c)) ∗ wPt c (chw j) shO (wF m c)) := by
  iintro H
  ihave H := (pointsTo_share (PosShare.mem_left_op_right (fullShare : PosShare TreeShare))).1 $$ H
  icases H with ⟨H1, H⟩
  ihave H := (pointsTo_share (PosShare.mem_left_op_right ((fullShare : PosShare TreeShare).right))).1 $$ H
  icases H with ⟨H2, H3⟩
  rw [two_dirs]
  isplitr [H3]
  · isplitl [H1]; · iexact H1
    iexact H2
  iexact H3

/-- One chunk: wait, add, send on both ways. -/
theorem add_one (j : Fin 8) (l : List Tr) :
    iprop(records m K ∗ addA (F := F) c j ∗ (lPt c Finset.univ fullShare (lF m c) ∗ Ow c 2 (dirs.map (fun b => Tr.rg b 0 j) ++ l)))
      ⊢ W c (pAdd c j >>= fun _ => seqL dirs fun b => pFirst c j b) iprop(addB m c j ∗ (lPt c Finset.univ fullShare (lF m c) ∗ Ow c 2 l)) := by
  unfold addA addB
  iintro ⟨#HR, ⟨Hr, Hw, Hd⟩, Hl, HO⟩
  ihave H := (step_add m K c j (dirs.map (fun b => Tr.rg b 0 j) ++ l)) $$ [Hr Hw Hl HO]
  · isplitr; · iexact HR
    isplitr [HO]
    · isplitl [Hr]; · iexact Hr
      isplitl [Hw] <;> iassumption
    iexact HO
  iapply W_then $$ H
  iintro ⟨⟨Hz, Hp, Hw, Hl⟩, HO⟩
  ihave Hw := (w_shares m c j) $$ Hw
  icases Hw with ⟨Hw, HwO⟩
  ihave H := (first_two m K c j l) $$ [Hw Hd HO]
  · isplitr; · iexact HR
    isplitr [HO]
    · rw [list_sep dirs (fun b => wPt c (chw j) (shF b) (wF m c)) (fun b => iprop(room b c 0 j ∗ sendTok c (.rg b 0 j)))]
      isplitl [Hw] <;> iassumption
    iexact HO
  iapply W_imp $$ H
  iintro ⟨Hc, HO⟩
  isplitr [Hl HO]
  · isplitl [Hz]; · iexact Hz
    isplitl [Hp]; · iexact Hp
    isplitl [HwO] <;> iassumption
  isplitl [Hl] <;> iassumption

/-- All chunks. -/
theorem phase_add :
    iprop(records m K ∗ (bigSepL fin8 fun j => addA (F := F) c j) ∗ (lPt c Finset.univ fullShare (lF m c) ∗ Ow c 2 ringT))
      ⊢ W c (seqL fin8 fun j => pAdd c j >>= fun _ => seqL dirs fun b => pFirst c j b)
          iprop((bigSepL fin8 fun j => addB m c j) ∗ (lPt c Finset.univ fullShare (lF m c) ∗ Ow c 2 (rgL 1 ++ (rgL 2 ++ rgL 3)))) :=
  W_list (records m K) _ _ (fun r => iprop(lPt c Finset.univ fullShare (lF m c) ∗ Ow c 2 (r.flatMap (fun j => dirs.map (fun b => Tr.rg b 0 j)) ++ (rgL 1 ++ (rgL 2 ++ rgL 3)))))
    _ (fun j r => add_one m K c j (r.flatMap (fun j => dirs.map (fun b => Tr.rg b 0 j)) ++ (rgL 1 ++ (rgL 2 ++ rgL 3)))) fin8

/-- A pair of loops, over chunks and directions, is one. -/
theorem loops (f : Fin 8 → Bool → Prog (PE F) PUnit) : (seqL fin8 fun j => seqL dirs fun b => f j b) = seqL jb fun p => f p.1 p.2 := by
  unfold jb
  rw [seqL_flat]
  exact congrArg (seqL fin8) (funext fun j => (seqL_map (fun b => (j, b)) dirs (fun p => f p.1 p.2)).symm)

/-- What a step of passing on takes and leaves, for one chunk and direction. -/
def passA (s s' : Fin 4) (p : Fin 8 × Bool) : sProp 𝕄 := iprop(rcvRes c (rgT s p) ∗ roomT (F := F) c (rgT s' p) ∗ sendTok c (rgT s' p))
def passB (s s' : Fin 4) (p : Fin 8 × Bool) : sProp 𝕄 := iprop(kept m c p.2 s p.1 ∗ zero c (.rcv (rgT s p)) ∗ sndCred c (rgT s' p))

/-- One step of passing on: every chunk is waited for and, where the next step takes it, sent on. -/
theorem phase_pass (s s' : Fin 4) (hs : s'.val = s.val + 1) (l : List Tr) :
    iprop(records m K ∗ bigSepL jb (passA (F := F) c s s') ∗ Ow c (3 + s.val) (rgL s' ++ l))
      ⊢ W c (seqL fin8 fun j => seqL dirs fun b => pPass c s s' j b) iprop(bigSepL jb (passB m c s s') ∗ Ow c (3 + s.val) l) := by
  rw [loops]
  exact W_list (records m K) _ _ (fun r => Ow c (3 + s.val) (r.map (rgT s') ++ l)) _
    (fun p r => step_pass m K c s s' hs p.1 p.2 (r.map (rgT s') ++ l)) jb

/-- The three steps of passing on. -/
theorem phase_ring :
    iprop(records m K ∗ (bigSepL jb (passA (F := F) c 0 1) ∗ bigSepL jb (passA (F := F) c 1 2) ∗ bigSepL jb (passA (F := F) c 2 3)) ∗ Ow c 2 (rgL 1 ++ (rgL 2 ++ rgL 3)))
      ⊢ W c (seqL [((0 : Fin 4), (1 : Fin 4)), (1, 2), (2, 3)] fun ss => seqL fin8 fun j => seqL dirs fun b => pPass c ss.1 ss.2 j b)
          iprop((bigSepL jb (passB m c 0 1) ∗ bigSepL jb (passB m c 1 2) ∗ bigSepL jb (passB m c 2 3)) ∗ Ow c 6 []) := by
  refine (show _ ⊢ W c ((seqL fin8 fun j => seqL dirs fun b => pPass c 0 1 j b) >>= fun _ => (seqL fin8 fun j => seqL dirs fun b => pPass c 1 2 j b)
    >>= fun _ => (seqL fin8 fun j => seqL dirs fun b => pPass c 2 3 j b) >>= fun _ => pure ⟨⟩) _ from ?_)
  iintro ⟨#HR, ⟨H0, H1, H2⟩, HO⟩
  ihave H := (phase_pass m K c 0 1 rfl (rgL 2 ++ rgL 3)) $$ [H0 HO]
  · isplitr; · iexact HR
    isplitl [H0]; · iexact H0
    iapply (Ow_weaken (F := F) c 2 3 (rgL 1 ++ (rgL 2 ++ rgL 3)) (by decide)); iexact HO
  iapply W_then $$ H
  iintro ⟨H0, HO⟩
  ihave H := (phase_pass m K c 1 2 rfl (rgL 3)) $$ [H1 HO]
  · isplitr; · iexact HR
    isplitl [H1]; · iexact H1
    iapply (Ow_weaken (F := F) c 3 4 (rgL 2 ++ rgL 3) (by decide)); iexact HO
  iapply W_then $$ H
  iintro ⟨H1, HO⟩
  ihave H := (phase_pass m K c 2 3 rfl []) $$ [H2 HO]
  · isplitr; · iexact HR
    isplitl [H2]; · iexact H2
    rw [List.append_nil]
    iapply (Ow_weaken (F := F) c 4 5 (rgL 3) (by decide)); iexact HO
  iapply W_then $$ H
  iintro ⟨H2, HO⟩
  iapply W_done
  isplitr [HO]
  · isplitl [H0]; · iexact H0
    isplitl [H1] <;> iassumption
  iapply (Ow_weaken (F := F) c 5 6 [] (by decide)); iexact HO

/-- The last arrivals are waited for. -/
theorem phase_last :
    iprop(records m K ∗ (bigSepL jb fun p => rcvRes c (rgT 3 p)) ∗ Ow (F := F) c 6 [])
      ⊢ W c (seqL fin8 fun j => seqL dirs fun b => pLast c j b)
          iprop((bigSepL jb fun p => iprop(kept m c p.2 3 p.1 ∗ zero c (.rcv (rgT 3 p)))) ∗ Ow c 6 []) := by
  rw [loops]
  exact W_list (records m K) _ _ (fun _ => Ow c 6 []) _ (fun p _ => step_last m K c p.1 p.2) jb

/-- The ends of the sendings to the partner are waited for. -/
theorem phase_doneP :
    iprop(records m K ∗ (bigSepL fin8 fun j => iprop(sndPos c (.p1 j) ∗ sndCred c (.p1 j))) ∗ Ow (F := F) c 6 [])
      ⊢ W c (seqL fin8 fun j => pDoneP c j) iprop((bigSepL fin8 fun j => zero c (.snd (.p1 j))) ∗ Ow c 6 []) :=
  W_list (records m K) _ _ (fun _ => Ow c 6 []) _ (fun j _ => step_doneP m K c j) fin8

/-- A direction's transfers in the order they are waited for. -/
abbrev lateL (b : Bool) : List Tr := [(1 : Fin 4), 2, 3].flatMap fun s => fin8.map fun j => .rg b s j
abbrev doneL (b : Bool) : List Tr := (fin8.map fun j => .rg b 0 j) ++ lateL b
/-- The order in which the ring's departures are waited for holds every transfer of the ring once. -/
theorem done_perm : (doneL true ++ doneL false).Perm ringT := by decide +kernel

/-- What a departure waits with. -/
def doneA (t : Tr) : sProp 𝕄 := iprop(sndPos c t ∗ sndCred c t)

/-- The ends of one direction's sendings after the first step are waited for. -/
theorem phase_late (b : Bool) :
    iprop(records m K ∗ bigSepL (lateL b) (doneA (F := F) c) ∗ Ow (F := F) c 6 [])
      ⊢ W c (seqL [(1 : Fin 4), 2, 3] fun s => seqL fin8 fun j => pDoneS c b s j) iprop((bigSepL (lateL b) fun t => zero c (.snd t)) ∗ Ow c 6 []) := by
  unfold lateL
  rw [list_flat, list_flat]
  refine W_list (records m K) _ _ (fun _ => Ow c 6 []) _ (fun s _ => ?_) [(1 : Fin 4), 2, 3]
  rw [bigSepL_map, bigSepL_map]
  exact W_list (records m K) _ _ (fun _ => Ow c 6 []) _ (fun j _ => step_doneS m K c b s j) fin8

/-- The ends of all of one direction's sendings are waited for; the sums lent to the first step come back. -/
theorem phase_dir (b : Bool) :
    iprop(records m K ∗ bigSepL (doneL b) (doneA (F := F) c) ∗ Ow (F := F) c 6 [])
      ⊢ W c ((seqL fin8 fun j => pDone0 c b j) >>= fun _ => seqL [(1 : Fin 4), 2, 3] fun s => seqL fin8 fun j => pDoneS c b s j)
          iprop(((bigSepL fin8 fun j => wPt c (chw j) (shF b) (wF m c)) ∗ (bigSepL (doneL b) fun t => zero c (.snd t))) ∗ Ow c 6 []) := by
  unfold doneL
  rw [bigSepL_append, bigSepL_append, bigSepL_map, bigSepL_map]
  iintro ⟨#HR, ⟨H0, Hl⟩, HO⟩
  ihave H := (W_list (records m K) _ _ (fun _ => Ow c 6 []) _ (fun j _ => step_done0 m K c b j) fin8) $$ [H0 HO]
  · isplitr; · iexact HR
    isplitl [H0]; · iexact H0
    iexact HO
  iapply W_then $$ H
  rw [list_sep fin8 (fun j => wPt c (chw j) (shF b) (wF m c)) (fun j => zero c (.snd (.rg b 0 j)))]
  iintro ⟨⟨Hw, Hz⟩, HO⟩
  ihave H := (phase_late m K c b) $$ [Hl HO]
  · isplitr; · iexact HR
    isplitl [Hl] <;> iassumption
  iapply W_imp $$ H
  iintro ⟨Hzl, HO⟩
  isplitr [HO]
  · isplitl [Hw]; · iexact Hw
    isplitl [Hz] <;> iassumption
  iexact HO

/-- All departures of the ring. -/
theorem phase_done :
    iprop(records m K ∗ bigSepL ringT (doneA (F := F) c) ∗ Ow (F := F) c 6 [])
      ⊢ W c (seqL dirs fun b => (seqL fin8 fun j => pDone0 c b j) >>= fun _ => seqL [(1 : Fin 4), 2, 3] fun s => seqL fin8 fun j => pDoneS c b s j)
          iprop(((bigSepL dirs fun b => wPt c Finset.univ (shF b) (wF m c)) ∗ (bigSepL ringT fun t => zero c (.snd t))) ∗ Ow c 6 []) := by
  have hp {M : Type} [URA M] (Φ : Tr → sProp M) : bigSepL ringT Φ = bigSepL dirs fun b => bigSepL (doneL b) Φ := by
    rw [← list_perm done_perm, bigSepL_append]; rfl
  rw [hp, hp, ← list_sep dirs (fun b => wPt c Finset.univ (shF b) (wF m c)) (fun b => bigSepL (doneL b) fun t => zero c (.snd t))]
  refine W_list (records m K) _ _ (fun _ => Ow c 6 []) _ (fun b _ => ?_) dirs
  rw [w_parts]
  exact phase_dir m K c b

/-! ## Shares and pieces for the start and the end -/

/-- The share of `x` kept throughout; the share lent to the fetch of the own rows. -/
abbrev shX : PosShare TreeShare := (Transfers.shareDrop (fullShare : PosShare TreeShare) 8).left
abbrev shL : PosShare TreeShare := (Transfers.shareDrop (fullShare : PosShare TreeShare) 8).right

/-- Part of the elements held. -/
theorem x_part (S : Finset S1x16384x2048.Idx) (q : PosShare TreeShare) : xPt m c Finset.univ q ⊢ xPt m c S q := by
  iintro H
  ihave H := (pointsTo_split_subset (Finset.subset_univ S)).1 $$ H
  icases H with ⟨H, -⟩
  iexact H

/-- `x`: a share kept, one for the fetch, one for each chunk sent to the partner. -/
theorem x_deal : xPt m c Finset.univ fullShare
    ⊢ iprop(xPt m c Finset.univ shX ∗ xPt m c (xOwn c).view.set shL ∗ bigSepL fin8 fun j => xPt m c (xRow c j).view.set (Transfers.shareTok fullShare 8 j)) := by
  iintro H
  ihave H := (Transfers.pointsTo_toks_split (ℓ := (c : Thread nD τ).loc main_arg0) (fullShare : PosShare TreeShare) 8) $$ H
  icases H with ⟨H, Ht⟩
  ihave H := (pointsTo_share (PosShare.mem_left_op_right (Transfers.shareDrop (fullShare : PosShare TreeShare) 8))).1 $$ H
  icases H with ⟨Hk, Hl⟩
  isplitl [Hk]; · iexact Hk
  isplitl [Hl]; · iapply (x_part m c (xOwn c).view.set shL); iexact Hl
  ihave Ht := (Entails.of_eq (bigSep_univ_eq_bigSepL fin8 (by decide) (by decide) (fun j => xPt m c Finset.univ (Transfers.shareTok fullShare 8 j)))) $$ Ht
  iapply (bigSepL_mono (l := fin8) fun j _ => x_part m c (xRow c j).view.set (Transfers.shareTok fullShare 8 j))
  iexact Ht

/-- The result and the landing buffer as room for what comes, the own block kept. -/
theorem room_deal : iprop((∃ f, oPt (F := F) c Finset.univ fullShare f) ∗ (∃ f, pPt (F := F) c Finset.univ fullShare f))
    ⊢ iprop((∃ f, oPt (F := F) c (rowsO (2048 * pos c) 2048) fullShare f) ∗ bigSepL allT (ownT (F := F) c)) := by
  unfold allT
  rw [bigSepL_append, bigSepL_map]
  iintro ⟨⟨%f, Ho⟩, %g, Hp⟩
  ihave Ho := (Entails.of_eq (o_parts c fullShare f)) $$ Ho
  icases Ho with ⟨Ho, Hr⟩
  isplitl [Ho]; · iexists f; iexact Ho
  isplitl [Hp]
  · ihave Hp := (Entails.of_eq (p_parts c fullShare g)) $$ Hp
    iapply (bigSepL_mono (l := fin8) (Φ := fun j => pPt c (slotP j.val) fullShare g) fun j _ => by
      show _ ⊢ iprop(∃ f, pPt (F := F) c (slotP j.val) fullShare f)
      iintro H; iexists g; iexact H)
    iexact Hp
  · iapply (bigSepL_mono (l := ringT) (Φ := gotT c fullShare f) (Ψ := ownT (F := F) c) fun t ht => by
      rcases t with j | ⟨b, s, j⟩
      · exact absurd ht (by revert j; decide)
      · show (if act b s j = true then oPt (F := F) c (chk (rblk b s c) j) fullShare f else iprop(emp))
          ⊢ if act b s j = true then iprop(∃ f, oPt (F := F) c (chk (rblk b s c) j) fullShare f) else iprop(emp)
        by_cases h : act b s j = true
        · rw [if_pos h, if_pos h]; iintro H; iexists f; iexact H
        · rw [if_neg h, if_neg h])
    iexact Hr

/-- The sums as room, by chunks. -/
theorem w_deal : iprop(∃ f, wPt (F := F) c Finset.univ fullShare f) ⊢ bigSepL fin8 fun j => iprop(∃ f, wPt (F := F) c (chw j) fullShare f) := by
  iintro ⟨%f, H⟩
  ihave H := (Entails.of_eq (w_parts c fullShare f)) $$ H
  iapply (bigSepL_mono (l := fin8) (Φ := fun j => wPt c (chw j) fullShare f) fun j _ => by iintro H; iexists f; iexact H)
  iexact H

/-- What is kept of a step's arrivals is what the result's pieces are. -/
theorem kept_got (s : Fin 4) (p : Fin 8 × Bool) : kept m c p.2 s p.1 = gotT c (fullShare : PosShare TreeShare).left (oF m c) (rgT s p) := rfl

/-- The result whole again, half its share. -/
theorem o_whole : iprop(oPt c (rowsO (2048 * pos c) 2048) fullShare (oF m c) ∗ (bigSepL jb fun p => kept m c p.2 0 p.1) ∗ (bigSepL jb fun p => kept m c p.2 1 p.1)
      ∗ (bigSepL jb fun p => kept m c p.2 2 p.1) ∗ (bigSepL jb fun p => kept m c p.2 3 p.1))
    ⊢ oPt c Finset.univ (fullShare : PosShare TreeShare).left (oF m c) := by
  rw [o_parts, ring_split]
  iintro ⟨Ho, H⟩
  ihave Ho := (pointsTo_share (PosShare.mem_left_op_right (fullShare : PosShare TreeShare))).1 $$ Ho
  icases Ho with ⟨Ho, -⟩
  isplitl [Ho]; · iexact Ho
  iexact H

/-- The sums whole again. -/
theorem w_whole : iprop((bigSepL dirs fun b => wPt c Finset.univ (shF b) (wF m c)) ∗ wPt c Finset.univ shO (wF m c)) ⊢ wPt c Finset.univ fullShare (wF m c) := by
  rw [two_dirs]
  iintro ⟨⟨H1, H2⟩, H3⟩
  iapply (pointsTo_share (PosShare.mem_left_op_right (fullShare : PosShare TreeShare))).2
  isplitl [H1]; · iexact H1
  iapply (pointsTo_share (PosShare.mem_left_op_right ((fullShare : PosShare TreeShare).right))).2
  isplitl [H2]; · iexact H2
  iexact H3

/-! ## The whole body -/

/-- What a device starts with. -/
def begins : sProp 𝕄 :=
  iprop((dutyTok ER (bar (ptn c)) 0 none ∗ dutyTok ER (bar (nb false c)) 0 (some true) ∗ dutyTok ER (bar (nb true c)) 0 (some false))
    ∗ (atPos ER (bar c) 0 ∅ 0 ∗ cred (tallyAt (bar c) () 3))
    ∗ (dutyTok ER (cell c .loc) 0 none ∗ atPos ER (cell c .loc) 0 ∅ 0) ∗ (dutyTok ER (cell c .out) 0 none ∗ atPos ER (cell c .out) 0 ∅ 0)
    ∗ bigSepL allT (sendTok c) ∗ bigSepL allT (sndPos c) ∗ bigSepL allT (rcvRes c))
/-- The buffers it starts with. -/
def buffers : sProp 𝕄 :=
  iprop((∃ f, oPt (F := F) c Finset.univ fullShare f) ∗ xPt m c Finset.univ fullShare ∗ (∃ f, pPt (F := F) c Finset.univ fullShare f)
    ∗ (∃ f, lPt (F := F) c Finset.univ fullShare f) ∗ (∃ f, wPt (F := F) c Finset.univ fullShare f))
/-- What it owes at the start: the three signals and all transfers. -/
def debt : CellTallies nD τ sig Unit :=
  (((allT.map (dt c)).sum + tallyAt (bar (nb true c)) () 1) + tallyAt (bar (nb false c)) () 1) + tallyAt (bar (ptn c)) () 1
/-- All its cells at zero. -/
def zeros : sProp 𝕄 :=
  iprop(semVal (bar c) 0 ∗ zero c .loc ∗ zero c .out ∗ (bigSepL allT fun t => zero c (.snd t)) ∗ (bigSepL allT fun t => zero c (.rcv t)))
/-- What it ends with. -/
def ends : sProp 𝕄 :=
  iprop((oPt c Finset.univ (fullShare : PosShare TreeShare).left (oF m c) ∗ xPt m c Finset.univ shX ∗ pPt c Finset.univ fullShare (pF m c)
    ∗ lPt c Finset.univ fullShare (lF m c) ∗ wPt c Finset.univ fullShare (wF m c)) ∗ zeros c)

/-- The whole body: from the buffers at any contents to the sums in the result and every semaphore of the device at zero. -/
theorem body_run (w : Waits sig Unit) :
    iprop(records m K ∗ begins c ∗ buffers m c ∗ owes (c : Thread nD τ) (debt c) w) ⊢ W c (prog c) iprop(ends m c ∗ Ow c 6 []) := by
  unfold begins buffers debt prog
  iintro ⟨#HR, ⟨HtB, HaB, ⟨HtL, HaL⟩, ⟨HtO, HaO⟩, HtT, HaS, HrR⟩, ⟨Ho, Hx, Hp, Hl, Hw⟩, HO⟩
  ihave Hx := (x_deal m c) $$ Hx
  icases Hx with ⟨HxK, HxL, HxP⟩
  ihave Hrm := (room_deal (F := F) c) $$ [Ho Hp]
  · isplitl [Ho] <;> iassumption
  icases Hrm with ⟨Hown, Hgive⟩
  ihave Hgive := (Entails.of_eq (bar_gives (F := F) c)) $$ Hgive
  ihave Hw := (w_deal (F := F) c) $$ Hw
  -- the barrier
  ihave H := (step_bar m K c allT (by decide) w) $$ [HtB HaB Hgive HO]
  · isplitr; · iexact HR
    isplitl [HtB]; · iexact HtB
    isplitl [Hgive]; · iexact Hgive
    isplitl [HaB] <;> iassumption
  iapply W_then $$ H
  iintro ⟨⟨Hget, HzB⟩, HO⟩
  ihave Hget := (Entails.of_eq (bar_gets (F := F) c)) $$ Hget
  -- everything by phase
  ihave Hget := (Entails.of_eq (all_split (roomT (F := F) c))) $$ Hget
  icases Hget with ⟨HmP, Hm0, Hm1, Hm2, Hm3⟩
  ihave HtT := (Entails.of_eq (all_split (sendTok (F := F) c))) $$ HtT
  icases HtT with ⟨HtP, Ht0, Ht1, Ht2, Ht3⟩
  ihave HrR := (Entails.of_eq (all_split (rcvRes (F := F) c))) $$ HrR
  icases HrR with ⟨HrP, Hr0, Hr1, Hr2, Hr3⟩
  -- the partner's chunks
  ihave H := (phase_p1 m K c) $$ [HmP HxP HtP HO]
  · isplitr; · iexact HR
    isplitr [HO]
    · rw [list_sep, list_sep]
      isplitl [HmP]; · iexact HmP
      isplitl [HxP] <;> iassumption
    iexact HO
  iapply W_then $$ H
  iintro ⟨HcP, HO⟩
  -- the own rows
  ihave H := (step_loc m K c shL ringT) $$ [Hl HxL HtL HaL HO]
  · isplitr; · iexact HR
    isplitr [HO]
    · isplitl [Hl]; · iexact Hl
      isplitl [HxL]; · iexact HxL
      isplitl [HtL] <;> iassumption
    iexact HO
  iapply W_then $$ H
  iintro ⟨⟨Hl, HzL⟩, HO⟩
  -- the sums
  ihave H := (phase_add m K c) $$ [HrP Hw Hm0 Ht0 Hl HO]
  · isplitr; · iexact HR
    isplitr [Hl HO]
    · unfold addA
      rw [list_sep, list_sep]
      isplitl [HrP]; · iexact HrP
      isplitl [Hw]; · iexact Hw
      ihave H := (Entails.of_eq (list_sep jb (fun p => roomT (F := F) c (rgT 0 p)) (fun p => sendTok (F := F) c (rgT 0 p))).symm) $$ [Hm0 Ht0]
      · isplitl [Hm0] <;> iassumption
      ihave H := (Entails.of_eq (list_flat (fun j : Fin 8 => dirs.map fun b => (j, b)) fin8 (fun p => iprop(roomT (F := F) c (rgT 0 p) ∗ sendTok (F := F) c (rgT 0 p))))) $$ H
      iexact H
    isplitl [Hl]; · iexact Hl
    iapply (Ow_weaken (F := F) c 1 2 ringT (by decide)); iexact HO
  iapply W_then $$ H
  unfold addB
  rw [list_sep, list_sep, list_sep]
  iintro ⟨⟨HzRP, Hp, Hw, Hc0⟩, Hl, HO⟩
  -- the sums into the result
  ihave H := (step_out m K c) $$ [Hw Hown HtO]
  · isplitr; · iexact HR
    isplitl [Hw]; · rw [w_parts]; iexact Hw
    isplitl [Hown] <;> iassumption
  iapply W_then $$ H
  iintro HcO
  -- around the ring
  ihave H := (phase_ring m K c) $$ [Hr0 Hr1 Hr2 Hm1 Hm2 Hm3 Ht1 Ht2 Ht3 HO]
  · isplitr; · iexact HR
    isplitr [HO]
    · unfold passA
      rw [list_sep, list_sep, list_sep, list_sep, list_sep, list_sep]
      isplitl [Hr0 Hm1 Ht1]
      · isplitl [Hr0]; · iexact Hr0
        isplitl [Hm1] <;> iassumption
      isplitl [Hr1 Hm2 Ht2]
      · isplitl [Hr1]; · iexact Hr1
        isplitl [Hm2] <;> iassumption
      isplitl [Hr2]; · iexact Hr2
      isplitl [Hm3] <;> iassumption
    iexact HO
  iapply W_then $$ H
  unfold passB
  rw [list_sep, list_sep, list_sep, list_sep, list_sep, list_sep]
  iintro ⟨⟨⟨Hk0, Hz0, Hc1⟩, ⟨Hk1, Hz1, Hc2⟩, Hk2, Hz2, Hc3⟩, HO⟩
  -- the last arrivals
  ihave H := (phase_last m K c) $$ [Hr3 HO]
  · isplitr; · iexact HR
    isplitl [Hr3] <;> iassumption
  iapply W_then $$ H
  rw [list_sep]
  iintro ⟨⟨Hk3, Hz3⟩, HO⟩
  -- the departures
  ihave HaS := (Entails.of_eq (all_split (sndPos (F := F) c))) $$ HaS
  icases HaS with ⟨HaP, HaS⟩
  ihave H := (phase_doneP m K c) $$ [HaP HcP HO]
  · isplitr; · iexact HR
    isplitr [HO]
    · rw [list_sep]
      isplitl [HaP] <;> iassumption
    iexact HO
  iapply W_then $$ H
  iintro ⟨HzSP, HO⟩
  ihave H := (phase_done m K c) $$ [HaS Hc0 Hc1 Hc2 Hc3 HO]
  · isplitr; · iexact HR
    isplitr [HO]
    · unfold doneA
      rw [list_sep]
      isplitl [HaS]; · rw [ring_split]; iexact HaS
      rw [ring_split]
      isplitl [Hc0]
      · iapply (Entails.of_eq (list_flat (fun j : Fin 8 => dirs.map fun b => (j, b)) fin8 (fun p => sndCred (F := F) c (rgT 0 p))).symm)
        iexact Hc0
      isplitl [Hc1]; · iexact Hc1
      isplitl [Hc2] <;> iassumption
    iexact HO
  iapply W_then $$ H
  iintro ⟨⟨Hw, HzS⟩, HO⟩
  -- the sums in the result
  ihave H := (step_outW m K c) $$ [HaO HcO HO]
  · isplitr; · iexact HR
    isplitr [HO]
    · isplitl [HaO] <;> iassumption
    iexact HO
  iapply W_imp $$ H
  iintro ⟨⟨⟨Ho, HwO⟩, HzO⟩, HO⟩
  isplitr [HO]
  · unfold ends zeros
    isplitl [Ho Hk0 Hk1 Hk2 Hk3 HxK Hp Hl Hw HwO]
    · isplitl [Ho Hk0 Hk1 Hk2 Hk3]
      · iapply (o_whole m c)
        isplitl [Ho]; · iexact Ho
        isplitl [Hk0]; · iexact Hk0
        isplitl [Hk1]; · iexact Hk1
        isplitl [Hk2] <;> iassumption
      isplitl [HxK]; · iexact HxK
      isplitl [Hp]; · rw [p_parts]; iexact Hp
      isplitl [Hl]; · iexact Hl
      iapply (w_whole m c)
      isplitl [Hw] <;> iassumption
    isplitl [HzB]; · iexact HzB
    isplitl [HzL]; · iexact HzL
    isplitl [HzO]; · iexact HzO
    isplitl [HzSP HzS]
    · ihave HzS := (Entails.of_eq (ring_split (fun t => zero (F := F) c (.snd t)))) $$ HzS
      rw [all_split]
      isplitl [HzSP] <;> iassumption
    rw [all_split]
    isplitl [HzRP]; · iexact HzRP
    isplitl [Hz0]; · iexact Hz0
    isplitl [Hz1]; · iexact Hz1
    isplitl [Hz2] <;> iassumption
  iexact HO

end Cert.K

end
-- ==== Proof.Deal.lean ====
/-
# The launch's ghost state, minted and dealt

Every device's cells get their round state, and every duty its token. The tokens are minted by the cell they belong to and
dealt to the device that pays them: to the partner or to a neighbour. What each device owes at the start is, summed over
the devices, what each waits for.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The numbered cells by what they are for -/

/-- The cells: the two local copies', every transfer's sender's and receiver's. -/
def ckAll : List Ck := .loc :: .out :: (allT.map Ck.snd ++ allT.map Ck.rcv)

/-- Something for every number is something for every cell. -/
theorem nums {M : Type} [URA M] (Φ : Fin 146 → sProp M) : bigSep Finset.univ Φ
    = iprop(Φ Ck.loc.sem ∗ Φ Ck.out.sem ∗ (bigSepL allT fun t => Φ (Ck.snd t).sem) ∗ bigSepL allT fun t => Φ (Ck.rcv t).sem) := by
  rw [bigSep_univ_eq_bigSepL (ckAll.map Ck.sem) (by decide +kernel) (by decide +kernel) Φ]
  unfold ckAll
  rw [List.map_cons, List.map_cons, List.map_append, List.map_map, List.map_map, bigSepL_cons', bigSepL_cons', bigSepL_append, bigSepL_map, bigSepL_map]
  rfl

/-- Something for every cell of a device: the barrier's and the numbered ones'. -/
theorem opts {M : Type} [URA M] (Φ : Option (Fin 146) → sProp M) :
    bigSep Finset.univ Φ = iprop(Φ none ∗ bigSep Finset.univ fun i => Φ (some i)) := by
  rw [bigSep_univ_at Φ none, show (Finset.univ : Finset (Option (Fin 146))).erase none = Finset.univ.map Function.Embedding.some from by
    ext o; cases o <;> simp, bigSep_map]
  rfl

/-- Something for each cell of device `c`, spelt out. -/
def each (Φ : GSem nD τ sig → sProp 𝕄) (c : Dev nD) : sProp 𝕄 :=
  iprop(Φ (bar c) ∗ Φ (cell c .loc) ∗ Φ (cell c .out) ∗ (bigSepL allT fun t => Φ (cell c (.snd t))) ∗ bigSepL allT fun t => Φ (cell c (.rcv t)))

/-- Something for every cell of a device, by number or by what the cell is for. -/
theorem each_eq (Φ : GSem nD τ sig → sProp 𝕄) (c : Dev nD) :
    (bigSep Finset.univ fun o : Option (Fin 146) => Φ (kcell (c, o))) = each Φ c := by
  rw [opts, nums fun i => Φ (kcell (c, some i))]; rfl

/-! ## Cells and tokens minted -/

/-- Different devices and numbers name different cells. -/
theorem kcell_inj : Function.Injective (kcell : Dev nD × Option (Fin 146) → GSem nD τ sig) := by
  rintro ⟨c, o⟩ ⟨c', o'⟩ h
  have hc : c = c' := by
    have h1 := congrArg (fun g : GSem nD τ sig => g.1.1) h
    cases o <;> cases o' <;> exact h1
  subst hc
  have h2 := congrArg (fun g : GSem nD τ sig => g.2) h
  cases o with
  | none => cases o' with
    | none => rfl
    | some j => cases h2
  | some i => cases o' with
    | none => cases h2
    | some j => cases h2; rfl

def cells : Finset (GSem nD τ sig) := Finset.univ.map ⟨kcell, kcell_inj⟩

/-- A duty's token: the barrier's by who signals, a numbered cell's. -/
def tok (p : Dev nD × (Option Bool ⊕ Fin 146)) : GSem nD τ sig × ℕ × Option Bool := match p.2 with
  | .inl o => (bar p.1, 0, o)
  | .inr i => (kcell (p.1, some i), 0, none)

/-- Different duties have different tokens. -/
theorem tok_inj : Function.Injective tok := by
  rintro ⟨c, o⟩ ⟨c', o'⟩ h
  have hc : c = c' := by
    have h1 := congrArg (fun x : GSem nD τ sig × ℕ × Option Bool => x.1.1.1) h
    cases o <;> cases o' <;> exact h1
  subst hc
  have h2 := congrArg (fun x : GSem nD τ sig × ℕ × Option Bool => (x.1.2, x.2.2)) h
  cases o with
  | inl a => cases o' with
    | inl b => cases h2; rfl
    | inr j => cases h2
  | inr i => cases o' with
    | inl b => cases h2
    | inr j => cases h2; rfl

def toks : Finset (GSem nD τ sig × ℕ × Option Bool) := Finset.univ.map ⟨tok, tok_inj⟩

/-- The tokens of `c`'s own cells. -/
def ownToks (c : Dev nD) : sProp 𝕄 :=
  iprop((dutyTok ER (bar c) 0 none ∗ dutyTok ER (bar c) 0 (some true) ∗ dutyTok ER (bar c) 0 (some false))
    ∗ dutyTok ER (cell c .loc) 0 none ∗ dutyTok ER (cell c .out) 0 none
    ∗ (bigSepL allT fun t => dutyTok ER (cell c (.snd t)) 0 none) ∗ bigSepL allT fun t => dutyTok ER (cell c (.rcv t)) 0 none)
/-- The tokens `c` pays with. -/
def payToks (c : Dev nD) : sProp 𝕄 :=
  iprop((dutyTok ER (bar (ptn c)) 0 none ∗ dutyTok ER (bar (nb false c)) 0 (some true) ∗ dutyTok ER (bar (nb true c)) 0 (some false))
    ∗ dutyTok ER (cell c .loc) 0 none ∗ dutyTok ER (cell c .out) 0 none
    ∗ (bigSepL allT fun t => dutyTok ER (cell c (.snd t)) 0 none) ∗ bigSepL allT fun t => dutyTok ER (cell (tgt t c) (.rcv t)) 0 none)

/-- All tokens are every device's own cells' tokens. -/
theorem toks_eq : bigSep toks (fun x => (dutyTok ER x.1 x.2.1 x.2.2 : sProp 𝕄)) = bigSep Finset.univ fun c : Dev nD => ownToks c := by
  unfold toks
  rw [bigSep_map, bigSep_univ_prod]
  refine bigSep_congr fun c _ => ?_
  rw [bigSep_univ_sum, bigSep_univ_eq_bigSepL [none, some true, some false] (by decide) (by decide), nums]
  rfl

/-- What the launch mints for device `c`. -/
def minted (c : Dev nD) : sProp 𝕄 :=
  iprop((bigSep Finset.univ fun o : Option (Fin 146) => roundState ER (sched m) (kcell (c, o)) 0)
    ∗ (bigSep Finset.univ fun o : Option (Fin 146) => reached ER (kcell (c, o)) 0)
    ∗ (bigSep Finset.univ fun o : Option (Fin 146) => atPos ER (kcell (c, o)) 0 ∅ 0) ∗ ownToks c)

/-- The launch's state of the rounds gives every device what is minted for it. -/
theorem mint : BI.own (ER (initOf cells toks)) ⊢ (|==> bigSep Finset.univ (minted m) : sProp 𝕄) := by
  have hX (Φ : GSem nD τ sig → sProp 𝕄) : bigSep cells Φ = bigSep Finset.univ fun c : Dev nD => bigSep Finset.univ fun o : Option (Fin 146) => Φ (kcell (c, o)) := by
    unfold cells; rw [bigSep_map, bigSep_univ_prod]; rfl
  have hE : iprop(bigSep cells (fun g => roundState ER (sched m) g 0) ∗ bigSep cells (fun g => reached ER g 0)
      ∗ bigSep cells (fun g => atPos ER g 0 ∅ 0) ∗ bigSep toks (fun x => (dutyTok ER x.1 x.2.1 x.2.2 : sProp 𝕄))) = bigSep Finset.univ (minted m) := by
    rw [hX, hX, hX, toks_eq]
    unfold minted
    rw [bigSep_sep', bigSep_sep', bigSep_sep']
  rw [← hE]
  exact Rounds.fund ER (sched m) cells toks

/-! ## Tokens dealt -/

/-- The devices, renamed by the partner; by a direction; by where a transfer goes. -/
def ptnE : Dev nD ≃ Dev nD := ⟨ptn, ptn, ptn_ptn, ptn_ptn⟩
def nbE (b : Bool) : Dev nD ≃ Dev nD := ⟨nb b, nb (!b), nb_nb' b, nb_nb b⟩
def tgtE : Tr → (Dev nD ≃ Dev nD)
  | .p1 _ => ptnE
  | .rg b _ _ => nbE b
/-- Renaming by a transfer is going where it goes. -/
theorem tgtE_eq (t : Tr) (c : Dev nD) : tgtE t c = tgt t c := by cases t <;> rfl

/-- Over devices and along a list, in either order. -/
theorem swap_list {I : Type} (Φ : Dev nD → I → sProp 𝕄) : ∀ l : List I,
    (bigSep Finset.univ fun c => bigSepL l (Φ c)) = bigSepL l fun i => bigSep Finset.univ fun c => Φ c i
  | [] => BI.bigSep_emp_const _
  | i :: l => by
    rw [bigSepL_cons', ← swap_list Φ l, ← bigSep_sep']
    exact bigSep_congr fun c _ => bigSepL_cons' _ _ _

/-- The receivers' tokens, listed by receiver, are the same listed by sender. -/
theorem deal_rcv : (bigSep Finset.univ fun c : Dev nD => bigSepL allT fun t => (dutyTok ER (cell c (.rcv t)) 0 none : sProp 𝕄))
    = bigSep Finset.univ fun c : Dev nD => bigSepL allT fun t => dutyTok ER (cell (tgt t c) (.rcv t)) 0 none := by
  rw [swap_list, swap_list]
  refine list_congr _ fun t _ => ?_
  rw [bigSep_univ_equiv (tgtE t)]
  exact bigSep_congr fun c _ => by rw [tgtE_eq]

/-- All tokens minted are all tokens paid with. -/
theorem deal_toks : (bigSep Finset.univ fun c : Dev nD => (ownToks c : sProp 𝕄)) = bigSep Finset.univ fun c : Dev nD => payToks c := by
  unfold ownToks payToks
  simp only [bigSep_sep']
  rw [deal_rcv, bigSep_univ_equiv ptnE (fun c : Dev nD => (dutyTok ER (bar c) 0 none : sProp 𝕄)),
    bigSep_univ_equiv (nbE false) (fun c : Dev nD => (dutyTok ER (bar c) 0 (some true) : sProp 𝕄)),
    bigSep_univ_equiv (nbE true) (fun c : Dev nD => (dutyTok ER (bar c) 0 (some false) : sProp 𝕄))]
  rfl

/-! ## What is owed is what is waited for -/

/-- What a transfer's receiver waits for. -/
def due (c : Dev nD) (t : Tr) : CellTallies nD τ sig Unit := tallyAt (cell c (.rcv t)) () (if t.act then N else 0)
/-- What `c` waits for that others pay. -/
def dues (c : Dev nD) : CellTallies nD τ sig Unit := tallyAt (bar c) () 3 + (allT.map (due c)).sum

/-- A tally of nothing is nothing. -/
theorem tally_zero (g : GSem nD τ sig) : (tallyAt g () 0 : CellTallies nD τ sig Unit) = 0 := by
  funext g'; refine Finsupp.ext fun u => ?_
  rw [tallyAt_apply]; split <;> rfl

/-- Tallies at one cell add up. -/
theorem tally_add (g : GSem nD τ sig) (a b : ℕ) : (tallyAt g () a : CellTallies nD τ sig Unit) + tallyAt g () b = tallyAt g () (a + b) := by
  funext g'; refine Finsupp.ext fun u => ?_
  rw [Pi.add_apply, Finsupp.add_apply, tallyAt_apply, tallyAt_apply, tallyAt_apply]; split <;> rfl

/-- What a sender owes is what its receiver waits for. -/
theorem dt_due (c : Dev nD) (t : Tr) : dt c t = due (tgt t c) t := by
  unfold dt due
  split
  · rfl
  · rw [tally_zero]

/-- Over devices and along a list, in either order. -/
theorem swap_sum (f : Dev nD → Tr → CellTallies nD τ sig Unit) : ∀ l : List Tr, (∑ c, (l.map (f c)).sum) = (l.map fun t => ∑ c, f c t).sum
  | [] => Finset.sum_const_zero
  | t :: l => by
    simp only [List.map_cons, List.sum_cons, Finset.sum_add_distrib]
    rw [swap_sum f l]

/-- Renaming the devices does not change a sum of barrier units. -/
theorem sum_bar (e : Dev nD ≃ Dev nD) (n : ℕ) : (∑ c, (tallyAt (bar (e c)) () n : CellTallies nD τ sig Unit)) = ∑ c, tallyAt (bar c) () n :=
  Equiv.sum_comp e fun c => (tallyAt (bar c) () n : CellTallies nD τ sig Unit)

/-- For one transfer, what all devices owe is what all wait for. -/
theorem sum_due (t : Tr) : (∑ c, dt c t) = ∑ c, due c t := by
  rw [← Equiv.sum_comp (tgtE t) fun c => due c t]
  exact Finset.sum_congr rfl fun c _ => by rw [tgtE_eq, dt_due]

/-- Summed over the devices, what is owed at the start is what is waited for. -/
theorem sum_debt : (∑ c, debt c) = ∑ c, dues c := by
  have h3 : ∀ c : Dev nD, (tallyAt (bar c) () 3 : CellTallies nD τ sig Unit) = tallyAt (bar c) () 1 + tallyAt (bar c) () 1 + tallyAt (bar c) () 1 := fun c => by
    rw [tally_add, tally_add]
  have hT : (allT.map fun t => ∑ c, dt c t) = allT.map fun t => ∑ c, due c t := List.map_congr_left fun t _ => sum_due t
  have h1 := sum_bar ptnE 1
  have h2 := sum_bar (nbE false) 1
  have h4 := sum_bar (nbE true) 1
  unfold debt dues
  simp only [h3, Finset.sum_add_distrib]
  rw [swap_sum, swap_sum, hT]
  refine (congrArg₂ (· + ·) (congrArg₂ (· + ·) (congrArg₂ (· + ·) rfl h4) h2) h1).trans ?_
  rw [add_assoc, add_assoc, add_comm, ← add_assoc]

/-- What a device waits for from a list of transfers lies on its own cells. -/
theorem due_cell (c : Dev nD) (l : List Tr) (g : GSem nD τ sig) (h : (l.map (due c)).sum g ≠ 0) : g.1 = (c : Thread nD τ) := by
  induction l with
  | nil => exact absurd rfl h
  | cons t l ih =>
    rw [List.map_cons, List.sum_cons, Pi.add_apply] at h
    by_cases h1 : due c t g = 0
    · rw [h1, zero_add] at h; exact ih h
    · unfold due at h1
      by_contra hn
      exact h1 (tallyAt_ne_cell (fun h' => hn (by rw [h'])) () _)

/-- All that a device waits for lies on its own cells. -/
theorem dues_cell (c : Dev nD) (g : GSem nD τ sig) (h : dues c g ≠ 0) : g.1 = (c : Thread nD τ) := by
  unfold dues at h
  rw [Pi.add_apply] at h
  by_cases h1 : (tallyAt (bar c) () 3 : CellTallies nD τ sig Unit) g = 0
  · rw [h1, zero_add] at h; exact due_cell c allT g h
  · by_contra hn
    exact h1 (tallyAt_ne_cell (fun h' => hn (by rw [h'])) () 3)

/-- Credit for a sum along a list is credit for each of its terms. -/
theorem cred_list (l : List Tr) (f : Tr → CellTallies nD τ sig Unit) : (cred ((l.map f).sum) : sProp 𝕄) = bigSepL l fun t => cred (f t) := by
  induction l with
  | nil => exact cred_zero
  | cons t l ih => rw [List.map_cons, List.sum_cons, bigSepL_cons', ← ih]; exact both_ways (cred_add _ _).1 (cred_add _ _).2

/-- The launch's credit for device `c`: the barrier's and every transfer's. -/
theorem creds (c : Dev nD) : (Pipeline.launchCred debt c : sProp 𝕄)
    ⊢ iprop(cred (tallyAt (bar c) () 3) ∗ bigSepL allT fun t => cred (tallyAt (cell c (.rcv t)) () (if t.act then N else 0))) := by
  rw [Pipeline.launchCred_of_sum debt dues sum_debt dues_cell c]
  unfold dues
  refine (cred_add _ _).1.trans ?_
  rw [cred_list]
  exact Entails.refl _

end Cert.K

end
-- ==== Proof.Launch.lean ====
/-
# The launch

Every cell is opened, every device is given its places and the tokens it pays with, and the kernel runs on every device
from any memory to one in which the result holds the sums and every semaphore is at zero.
-/
module

public import proofs.«01_k».proof.Proof.Deal
public import proofs.«01_k».proof.Proof.BodyEq
public import Idealize.ShloMosaic.Lib.Pipeline.CollectiveSegs

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The launch memory: any contents, every counter at zero. -/
def s₀ : MemSt nD τ sig (Elt F) := ⟨m, fun _ => 0, ρ⟩

/-! ## The cells opened -/

abbrev osem : Fin 146 → SemLoc sig := fun i => .dma i

/-- The 146 numbered semaphores are the kernel's own. -/
theorem ownSemFacts : Pipeline.OwnSemFacts cfg0.spec osem := by decide +kernel

/-- The barrier's semaphore is the one that outlives the kernel. -/
theorem unscoped_eq (c : Dev nD) : (unscopedSems0 c : sProp 𝕄) = semVal (bar c) 0 := by
  unfold unscopedSems0; rw [bigSep_eq_bigSepL_of_eq [SemLoc.reg barS] (by decide +kernel) (by decide)]; rfl

/-- The kernel's own semaphores and the barrier's are a device's cells. -/
theorem sems_eq (c : Dev nD) :
    iprop(Pipeline.ownSems0 (Ix := Unit) (Name := ℕ) (U := UU) (Lvl := ℕ) (Val := Elt F) (τ := τ) osem c ∗ unscopedSems0 c)
      = (bigSep Finset.univ fun o : Option (Fin 146) => semVal (kcell (c, o)) 0 : sProp 𝕄) := by
  rw [unscoped_eq, opts]
  unfold Pipeline.ownSems0
  refine both_ways ?_ ?_
  · iintro ⟨H, HB⟩
    isplitl [HB]; · iexact HB
    iexact H
  · iintro ⟨HB, H⟩
    isplitl [H]; · iexact H
    iexact HB

/-- Device `c`'s cells opened. -/
theorem opened (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun o => iprop(∃ κ : ℕ, cellInv ER (sched m) κ (kcell (c, o))))
          ∗ (bigSep Finset.univ fun o : Option (Fin 146) => reached ER (kcell (c, o)) 0)
          ∗ (bigSep Finset.univ fun o : Option (Fin 146) => atPos ER (kcell (c, o)) 0 ∅ 0) ∗ ownToks c) := by
  unfold minted
  iintro ⟨Hos, Hus, Hst, Hre, Hat, Htok⟩
  ihave Hv := (Entails.of_eq (sems_eq (F := F) c)) $$ [Hos Hus]
  · isplitl [Hos] <;> iassumption
  imod (show iprop((bigSep Finset.univ fun o : Option (Fin 146) => semVal (kcell (c, o)) 0) ∗ bigSep Finset.univ fun o : Option (Fin 146) => roundState ER (sched m) (kcell (c, o)) 0)
      ⊢ (|={Set.univ}=> bigSep Finset.univ fun o => iprop(∃ κ : ℕ, cellInv ER (sched m) κ (kcell (c, o))) : sProp 𝕄) from by
        rw [← bigSep_sep']
        exact (bigSep_mono fun o _ => (Rounds.body_intro ER (sched m) (kcell (c, o))).trans inv_alloc).trans (bigSep_fupd _ _)) $$ [Hv Hst] with Hinv
  · isplitl [Hv] <;> iassumption
  imodintro
  isplitl [Hinv]; · iexact Hinv
  isplitl [Hre]; · iexact Hre
  isplitl [Hat]; · iexact Hat
  iexact Htok

/-- The cells' invariants and rounds, without the levels. -/
def opening (K : Dev nD × Option (Fin 146) → ℕ) : sProp 𝕄 :=
  iprop((bigSep Finset.univ fun p : Dev nD × Option (Fin 146) => cellInv ER (sched m) (K p) (kcell p))
    ∗ bigSep Finset.univ fun p : Dev nD × Option (Fin 146) => reached ER (kcell p) 0)
instance opening_persistent (K : Dev nD × Option (Fin 146) → ℕ) : BI.Persistent (opening m K) := by unfold opening; infer_instance

/-- What each device is given. -/
def given (c : Dev nD) : sProp 𝕄 := iprop(∃ K, opening m K ∗ each (fun g => atPos ER g 0 ∅ 0) c ∗ payToks c)

/-- What is kept by all is kept by each. -/
theorem shared {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- Cells opened by every device, and the tokens minted, become what each device is given. -/
theorem dealt :
    (bigSep Finset.univ fun c : Dev nD => iprop((bigSep Finset.univ fun o => iprop(∃ κ : ℕ, cellInv ER (sched m) κ (kcell (c, o))))
          ∗ (bigSep Finset.univ fun o : Option (Fin 146) => reached ER (kcell (c, o)) 0)
          ∗ (bigSep Finset.univ fun o : Option (Fin 146) => atPos ER (kcell (c, o)) 0 ∅ 0) ∗ ownToks c) : sProp 𝕄)
      ⊢ bigSep Finset.univ (given m) := by
  rw [bigSep_sep', bigSep_sep', bigSep_sep', deal_toks,
    ← bigSep_univ_prod (fun p : Dev nD × Option (Fin 146) => iprop(∃ κ : ℕ, cellInv ER (sched m) κ (kcell p))),
    ← bigSep_univ_prod (fun p : Dev nD × Option (Fin 146) => (reached ER (kcell p) 0 : sProp 𝕄))]
  iintro ⟨HI, #HR, Hat, Htok⟩
  ihave HK := (BI.bigSep_exists_pi Finset.univ (fun (p : Dev nD × Option (Fin 146)) (κ : ℕ) => (cellInv ER (sched m) κ (kcell p) : sProp 𝕄))) $$ HI
  icases HK with ⟨%K, #HI⟩
  iapply (shared (R := opening m K) (Φ := fun c => iprop((bigSep Finset.univ fun o : Option (Fin 146) => atPos ER (kcell (c, o)) 0 ∅ 0) ∗ payToks c)) fun c => by
    unfold given
    rw [each_eq (fun g => atPos ER g 0 ∅ 0) c]
    iintro ⟨#H, Ha, Ht⟩
    iexists K
    isplitr; · iexact H
    isplitl [Ha] <;> iassumption)
  isplitr
  · unfold opening; isplitl; · iexact HI
    iexact HR
  · rw [bigSep_sep']
    isplitl [Hat] <;> iassumption

/-- Every device's cells opened at once, and what was minted dealt. -/
theorem opened_all : (bigSep Finset.univ fun c => iprop(Pipeline.ownSems0 (Ix := Unit) (Name := ℕ) (U := UU) (Lvl := ℕ) (Val := Elt F) (τ := τ) osem c ∗ unscopedSems0 c ∗ minted m c) : sProp 𝕄)
    ⊢ |={Set.univ}=> bigSep Finset.univ (given m) :=
  ((bigSep_mono fun c _ => opened m c).trans (bigSep_fupd _ _)).trans (BI.fupd_mono (dealt m))

/-! ## Before and after the body -/

/-- What a device brings to the kernel; what it holds before the body and after. -/
def brings (c : Dev nD) : sProp 𝕄 :=
  iprop((∃ K, records m K ∗ begins c) ∗ xPt m c Finset.univ fullShare ∗ ∃ f, oPt (F := F) c Finset.univ fullShare f)
def before (c : Dev nD) : sProp 𝕄 := iprop((∃ K, records m K ∗ begins c) ∗ buffers m c)

def dats (_ : Fin 1) (c : Dev nD) : Dat τ (Elt F) Unit ℕ UU ℕ cfg0 c where
  A w := (s₀ m ρ).mem ((cfg0.win w).arr.view.loc (c : Thread nD τ))
  after w _ := w.elim0
  Φ t := match t with
    | ⟨0, _⟩ => before m c
    | ⟨_ + 1, _⟩ => ends m c
  q _ := fullShare
  owed t := match t with
    | ⟨0, _⟩ => debt c
    | ⟨_ + 1, _⟩ => 0

/-- The kernel has no windows of the pipeline: something for each of them is nothing. -/
theorem noWin (Φ : Fin cfg0.W → sProp 𝕄) : bigSep Finset.univ Φ = iprop(emp) := rfl

set_option maxRecDepth 65536 in
/-- The body, between its two ends. -/
theorem body_obligation (c : Dev nD) : BodyObligation (dats m ρ 0 c) (defs₀ (F := F)) 𝒱₀ () Set.univ := fun t => by
  rw [fin_N0 t, noWin, noWin]
  show iprop(before m c ∗ (dats m ρ 0 c).owesAt () t0_0.castSucc ∗ emp) ⊢ wp frame (wpE (defs₀ (F := F)) 𝒱₀ c none) Set.univ
    (cc0_body (F := F) (Memref.whole main_arg0) (Memref.isWhole_whole _) (Memref.whole main_v1) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6 cc0_scratch7 cc0_scratch8 cc0_scratch9 cc0_scratch10)
    (fun _ => iprop(ends m c ∗ (dats m ρ 0 c).owesAt () t0_0.succ ∗ emp))
  rw [body_eq, wp_deviceId]
  unfold before Dat.owesAt Pipeline.owesWithin
  rw [show (dats m ρ 0 c).owed t0_0.castSucc = debt c from rfl, show (dats m ρ 0 c).owed t0_0.succ = 0 from rfl]
  iintro ⟨⟨⟨%K, HR, HB⟩, Hb⟩, ⟨%w, -, HO⟩, -⟩
  ihave H := (body_run m K c w) $$ [HR HB Hb HO]
  · isplitl [HR]; · iexact HR
    isplitl [HB]; · iexact HB
    isplitl [Hb] <;> iassumption
  iapply (wp_wand _ _ _) $$ H
  iintro %_ ⟨HE, HO⟩
  unfold Ow
  icases HO with ⟨%w', -, HO⟩
  isplitl [HE]; · iexact HE
  isplitl [HO]
  · iexists w'
    isplitr; · (ipureintro; exact fun _ _ => Or.inl trivial)
    iexact HO
  iempintro

/-! ## What the run starts from and ends in -/

/-- What the launch gives a device is what its body begins with. -/
theorem begin_with (c : Dev nD) : iprop(given m c ∗ levAts L lv ∗ Pipeline.launchCred debt c) ⊢ iprop(∃ K, records m K ∗ begins c) := by
  unfold given opening each payToks records begins
  rw [show sendTok (F := F) c = fun t => iprop(dutyTok ER (cell c (.snd t)) 0 none ∗ dutyTok ER (cell (tgt t c) (.rcv t)) 0 none) from rfl,
    show rcvRes (F := F) c = fun t => iprop(atPos ER (cell c (.rcv t)) 0 ∅ 0 ∗ cred (tallyAt (cell c (.rcv t)) () (if t.act then N else 0))) from rfl,
    show sndPos (F := F) c = fun t => atPos ER (cell c (.snd t)) 0 ∅ 0 from rfl, list_sep, list_sep]
  iintro ⟨⟨%K, ⟨HI, HR⟩, ⟨HaB, HaL, HaO, HaS, HaR⟩, HtB, HtL, HtO, HtS, HtR⟩, Hlev, Hcr⟩
  ihave Hc := (creds (F := F) c) $$ Hcr
  icases Hc with ⟨HcB, HcR⟩
  iexists K
  isplitl [HI HR Hlev]
  · isplitl [HI]; · iexact HI
    isplitl [HR] <;> iassumption
  isplitl [HtB]; · iexact HtB
  isplitl [HaB HcB]
  · isplitl [HaB] <;> iassumption
  isplitl [HtL HaL]
  · isplitl [HtL] <;> iassumption
  isplitl [HtO HaO]
  · isplitl [HtO] <;> iassumption
  isplitl [HtS HtR]
  · isplitl [HtS] <;> iassumption
  isplitl [HaS]; · iexact HaS
  isplitl [HaR] <;> iassumption

/-- What the launch hands to a device is what it brings to the kernel. -/
theorem brings_intro (c : Dev nD) :
    iprop(Pipeline.unscopedRestP Pipeline.Prefetch.none cfg0.spec c (fun b => m ((c : Thread nD τ).loc b)) ∗ levAts L lv
        ∗ Pipeline.launchCred debt c ∗ prngReg c (ρ c) ∗ given m c)
      ⊢ |={Set.univ}=> iprop(brings m c ∗ emp) := by
  rw [Pipeline.unscopedRestP_none, unscopedRest0_eq]
  unfold brings
  iintro ⟨⟨Hx, Ho⟩, Hlev, Hcr, -, HG⟩
  ihave HB := (begin_with m c) $$ [HG Hlev Hcr]
  · isplitl [HG]; · iexact HG
    isplitl [Hlev] <;> iassumption
  imodintro
  isplitl
  · isplitl [HB]; · iexact HB
    isplitl [Hx]; · iexact Hx
    iexists (m ((c : Thread nD τ).loc main_v1)); iexact Ho
  · iempintro

/-- What a device brings, with the scratch buffers, is what its body starts from. -/
theorem before_intro (c : Dev nD) :
    iprop(brings m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold brings before buffers
  iintro ⟨⟨HB, Hx, Ho⟩, -, Hp, Hl, Hw⟩
  isplitl [HB]; · iexact HB
  isplitl [Ho]; · iexact Ho
  isplitl [Hx]; · iexact Hx
  isplitl [Hp]; · iexact Hp
  isplitl [Hl]; · iexact Hl
  iexact Hw

/-- What is read off at the end: the result, the argument as it was, the barrier's semaphore at zero. -/
def leaves (c : Dev nD) : sProp 𝕄 :=
  iprop(unscopedSems0 c ∗ oPt c Finset.univ (fullShare : PosShare TreeShare).left (oF m c) ∗ xPt m c Finset.univ shX)

/-- What the body ends with is what is read off, the kernel's own semaphores at zero and the scratch buffers. -/
theorem ends_exit (c : Dev nD) :
    (dats m ρ 0 c).Φ (Fin.last cfg0.N) ⊢ iprop(leaves m c ∗ Pipeline.ownSems0 osem c ∗ Pipeline.scopedRest cfg0.spec c) := by
  rw [show (dats m ρ 0 c).Φ (Fin.last cfg0.N) = ends m c from rfl, scopedRest0_eq]
  unfold ends leaves zeros Pipeline.ownSems0 zero
  rw [unscoped_eq, nums fun i => semVal ((c : Thread nD τ), osem i) 0]
  iintro ⟨⟨Ho, Hx, Hp, Hl, Hw⟩, HB, HL, HO, HS, HR⟩
  isplitl [HB Ho Hx]
  · isplitl [HB]; · iexact HB
    isplitl [Ho] <;> iassumption
  isplitl [HL HO HS HR]
  · isplitl [HL]; · iexact HL
    isplitl [HO]; · iexact HO
    isplitl [HS]; · iexact HS
    iexact HR
  isplitl [Hp]; · iexists _; iexact Hp
  isplitl [Hl]; · iexists _; iexact Hl
  iexists _; iexact Hw

/-- What the end shows of device `c`'s memory. -/
def shows (c : Dev nD) (s : MemSt nD τ sig (Elt F)) : Prop :=
  (∀ sm : SemLoc sig, sm.isScoped .tc = false → s.sem ((c.tc : Thread nD τ), sm) = 0)
    ∧ s.mem ((c : Thread nD τ).loc main_v1) = oF m c
    ∧ s.mem ((c : Thread nD τ).loc main_arg0) = m ((c : Thread nD τ).loc main_arg0)

/-- What is read off determines the memory as `shows` says. -/
theorem leaves_show (c : Dev nD) (s : Phys nD τ sig (Elt F)) :
    iprop(leaves m c ∗ emp ∗ SI s) ⊢ |={Set.univ}=> iprop(⌜shows m c s.mem⌝ ∗ SI s) := by
  unfold leaves
  iintro ⟨⟨Hu, Ho, Hx⟩, -, HSI⟩
  icombine HSI Ho gives %ho
  icombine HSI Hx gives %hx
  imod (Pipeline.unscopedSems0_read (X := unscopedSems0 c) (c := c) fupd_intro s) $$ [Hu HSI] with ⟨%hu, HSI⟩
  · isplitl [Hu] <;> iassumption
  imodintro
  isplitr
  · ipureintro
    exact ⟨hu, Buf.eq_of_forall_mem_univ ho, Buf.eq_of_forall_mem_univ hx⟩
  iexact HSI

/-- With no windows there is no wait of the pipeline to allow. -/
theorem waits (c : Dev nD) : (levAts L lv : sProp 𝕄) ⊢ Pipeline.cellsWaits cfgs (dats m ρ) () 0 c :=
  Pipeline.cellsWaits_intro cfgs (dats m ρ) () 0 c fun w _ _ => w.elim0

/-! ## The run -/

/-- For any float values, from any memory with zero counters: every weakly fair execution on the sixteen devices ends, with
    each device's result at the sums, its argument as it was and every semaphore at zero. -/
theorem run_main : θ_run defs (onTc (τ := τ) (main (F := F))) (s₀ m ρ) (fun r =>
    (∀ c : Dev nD, r.2.mem ((c : Thread nD τ).loc main_v1) = oF m c
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := fun _ w => w.elim0)
    (hdistinct := winFacts0.arr_inj)
    (O₀ := debt) (howed₀ := fun _ => rfl) (howedN := fun _ => rfl)
    (L := L) (lv := lv) (hL := L_of_ne) (hwaits := waits m ρ)
    (G := minted m) (G' := given m)
    (u₀ := (initOf (Pipeline.cells cfgs cellOf_inj) (Pipeline.launchToks cfgs cellOf_inj), initOf cells toks))
    (hu₀ := by
      iintro Hu
      ihave H := (ownU_pair _ _) $$ Hu
      icases H with ⟨HP, HX⟩
      imod (mint m) $$ HX with HG
      imodintro
      isplitl [HP] <;> iassumption)
    (hglob := opened_all m)
    (hA := fun _ _ => rfl) (hpf := fun _ k => k.elim0)
    (X := brings m) (Y := leaves m) (Z := fun _ => iprop(emp))
    (hX := brings_intro m ρ) (hin := before_intro m ρ) (hout := ends_exit m ρ)
    (QY := shows m) (hY := leaves_show m)
    (hQ := fun _ h hs => ⟨fun c => (h c).2.2.2, sem_eq_zero hs fun c => (h c).2.2.1⟩)

end Cert.K

end
-- ==== Proof.Ref.lean ====
/-
# The reference's run

The reference sums its argument's two blocks, from zero.
-/
module

public import proofs.«01_k».proof.Proof.Gen.ReferenceIdeal
public import Idealize.ShloMosaic.Lib.StableHlo.Run
public import Idealize.ShloMosaic.Lib.IdealHost
public import Idealize.ShloMosaic.Lib.Pointwise.Reduce
public import Idealize.ShloMosaic.Lib.Quiescent

@[expose] public section

noncomputable section

namespace Cert.K.Ref

open Cert.ReferenceIdeal Cert.ReferenceIdeal.Gen
open Idealize.ShloMosaic Idealize.ShloMosaic.TcCoe Idealize.ShloMosaic.StableHlo Idealize.SL.Sem
open Idealize.ShloMosaic.ValueIdx (hostReduceAdd_apply)

variable {F : FTy → Type} [FloatOps F]

/-- The reference's result from its argument. -/
abbrev out (x : FVec F S2x16384x2048 .f32) : FVec F S16384x2048 .f32 :=
  Host.reduceAdd x (constant S_ .f32 0x00000000#32) reducesTo_S2x16384x2048_S16384x2048_d0 h_S_

/-- The reference's operations, in order. -/
abbrev ops : List (HloOp τ sig (Elt F)) :=
  [ nullary main_cst (constant S_ .f32 0x00000000#32),
    binary main_arg0 main_cst main_v0 (fun x v => Host.reduceAdd x v reducesTo_S2x16384x2048_S16384x2048_d0 h_S_) ]

/-- The reference is these operations in order. -/
theorem main_eq (c : Dev nD) : main (F := F) c = seq ops := rfl

/-- What the operations leave in the result. -/
theorem out_eq (V : Valuation τ sig (Elt F)) : after ops V (main_v0 : DevRef τ sig) = out (V (main_arg0 : DevRef τ sig)) := by
  after_results
/-- The operations leave the argument. -/
theorem arg_eq (V : Valuation τ sig (Elt F)) : after ops V (main_arg0 : DevRef τ sig) = V (main_arg0 : DevRef τ sig) := by
  after_results

/-- Every run of the reference ends with the sum in its result, its argument as it was and every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v0) = out (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v0).trans (out_eq _), (h c main_arg0).trans (arg_eq _)⟩,
      sem_eq_zero_of_no_sems (by decide) r.2⟩)
    (run_seq (by decide) (by decide) defs main (fun _ => ops) main_eq
      (fun _ => ⟨nullary_bufs_sub .., binary_bufs_sub ..⟩) m ρ)

/-- Ideally an element of the result is the sum of the two blocks' elements at its place. -/
theorem out_apply (x : FVec Ideal S2x16384x2048 .f32) (r : Fin 16384) (k : Fin 2048) :
    out x (ix2 r k) = (x (ix3 (0 : Fin 2) r k) : EReal) + x (ix3 (1 : Fin 2) r k) := by
  unfold out
  rw [hostReduceAdd_apply, Ideal.hostReduceAdd_r3_a0, Fin.sum_univ_two]
  refine (congrArg (· + _) (Ideal.ofBits_zero_f32)).trans ((zero_add _).trans ?_)
  rfl

end Cert.K.Ref

end
-- ==== Proof.Value.lean ====
/-
# The kernel's sums are the reference's

A device sums its own block's element and its partner's, in this order; the reference sums the block of coordinate 0 and
that of coordinate 1. Ideally both are the same number.
-/
module

public import proofs.«01_k».proof.Proof.Cont
public import proofs.«01_k».proof.Proof.Ref
public import Idealize.ShloMosaic.Lib.Layout

@[expose] public section

set_option maxRecDepth 16384

noncomputable section

namespace Cert.K

open Cert.KernelIdeal Cert.KernelIdeal.Gen
open Idealize.ShloMosaic Idealize.ShloMosaic.TcCoe

variable (m : (ℓ : Loc nD τ sig) → Buf (Elt Ideal) ℓ) (X : (⟨3, ![2, 16384, 2048]⟩ : Shape).Idx → EReal)

/-- Every device holds its block of the whole argument. -/
def Holds : Prop := ∀ c : Dev nD, m ((c.tc : Thread nD τ).loc main_arg0)
  = Layout.blockN ⟨3, ![1, 16384, 2048]⟩ ⟨3, ![2, 16384, 2048]⟩ (Layout.meshBlock [2, 2, 4] ![[0], [], []] c) X

/-- A device's coordinate on the mesh's first axis. -/
theorem first_axis (d : Dev nD) : Layout.meshLin [2, 2, 4] d.val [0] = xco d := by revert d; decide

/-- An element of a device's block is the whole argument's at the device's coordinate. -/
theorem xv_eq (h : Holds m X) (d : Dev nD) (a : Fin 2) (r : Fin 16384) (k : Fin 2048) (ha : xco d = a.val) :
    xv m d r.val k.val = X (ix3 a r k) := by
  unfold xv
  rw [h d, Layout.blockN_apply]
  refine congrArg X (funext fun b => Fin.ext ?_)
  rw [Layout.TilesN.idx_val, Layout.meshBlock_val]
  match b with
  | ⟨0, _⟩ => exact (congrArg (· * 1 + 0) (first_axis d)).trans ((Nat.mul_one _).trans ha)
  | ⟨1, _⟩ => exact (congrArg (· + r.val % 16384) (Nat.zero_mul 16384)).trans ((Nat.zero_add _).trans (Nat.mod_eq_of_lt r.isLt))
  | ⟨2, _⟩ => exact (congrArg (· + k.val % 2048) (Nat.zero_mul 2048)).trans ((Nat.zero_add _).trans (Nat.mod_eq_of_lt k.isLt))

/-- The kernel's result on device `c` is its columns of the reference's. -/
theorem oF_eq (h : Holds m X) (c : Dev nD) :
    oF m c = Layout.blockN ⟨2, ![16384, 1024]⟩ ⟨2, ![16384, 2048]⟩ (Layout.meshBlock [2, 2, 4] ![[], [0]] c) (Ref.out (F := Ideal) X) := by
  funext i
  have hr : (i 0).val < 16384 := (i 0).isLt
  have hk : (i 1).val < 1024 := (i 1).isLt
  have hx : xco c < 2 := xco_lt c
  have e1 : xco (onRing c ((i 0).val / 2048)) = xco c := xco_onRing c ⟨(i 0).val / 2048, by omega⟩
  have e2 := (xco_ptn (onRing c ((i 0).val / 2048))).trans (congrArg (1 - ·) e1)
  let r : Fin 16384 := ⟨(i 0).val, hr⟩
  let k : Fin 2048 := ⟨1024 * xco c + (i 1).val, by omega⟩
  rw [Layout.blockN_apply]
  refine Eq.trans (b := Ref.out (F := Ideal) X (ix2 r k)) ?_ (congrArg (Ref.out (F := Ideal) X) (funext fun b => Fin.ext ?_))
  · rw [Ref.out_apply]
    rcases (by omega : xco c = 0 ∨ xco c = 1) with h0 | h0
    · exact congrArg₂ (· + ·) (xv_eq m X h _ 0 r k (e1.trans h0)) (xv_eq m X h _ 1 r k (e2.trans (congrArg (1 - ·) h0)))
    · exact (congrArg₂ (· + ·) (xv_eq m X h _ 1 r k (e1.trans h0)) (xv_eq m X h _ 0 r k (e2.trans (congrArg (1 - ·) h0)))).trans (add_comm _ _)
  · rw [Layout.TilesN.idx_val, Layout.meshBlock_val]
    match b with
    | ⟨0, _⟩ => exact ((congrArg (· + (i 0).val) (Nat.zero_mul 16384)).trans (Nat.zero_add _)).symm
    | ⟨1, _⟩ => exact congrArg (· + (i 1).val) ((Nat.mul_comm _ _).trans (congrArg (· * 1024) (first_axis c).symm))

end Cert.K

end
-- ==== Proof.lean ====
/-
# The claims

Both readings of the kernel come from the one run of it, which holds over any elements; the value claim adds the
reference's run and the equality of the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel as printed runs, leaves its arguments as they were and every semaphore at zero. -/
theorem frame_kernel : Cert.quiescent_Kernel := fun m g _ =>
  (θ_run Cert.KernelIdeal.defs _ _).mono (fun _ h => ⟨fun c => (h.1 c).2, h.2⟩) (Cert.K.run_main (F := Bits) m g)

/-- So does its ideal reading. -/
theorem frame_ideal : Cert.quiescent_KernelIdeal := fun m g _ =>
  (θ_run Cert.KernelIdeal.defs _ _).mono (fun _ h => ⟨fun c => (h.1 c).2, h.2⟩) (Cert.K.run_main (F := Ideal) m g)

/-- So does the reference. -/
theorem frame_reference : Cert.quiescent_ReferenceIdeal := fun m g _ =>
  (θ_run Cert.ReferenceIdeal.defs _ _).mono (fun _ h => ⟨fun c => (h.1 c).2, h.2⟩) (Cert.K.Ref.run_main (F := Ideal) m g)

/-- Every device ends with its columns of the reference's sum. -/
theorem value : Cert.algebraic_KernelIdeal_ReferenceIdeal := fun m g m' g' _ h =>
  ⟨Cert.K.Ref.out (F := Ideal) (m' (((0 : Dev Cert.ReferenceIdeal.nD).tc : Thread Cert.ReferenceIdeal.nD Cert.ReferenceIdeal.τ).loc Cert.ReferenceIdeal.main_arg0)),
    (θ_run Cert.KernelIdeal.defs _ _).mono (fun _ hr c => ⟨(hr.1 c).1.trans (Cert.K.oF_eq m _ h c), (hr.1 c).2⟩)
      (Cert.K.run_main (F := Ideal) m g),
    (θ_run Cert.ReferenceIdeal.defs _ _).mono (fun _ hr => hr.1 0) (Cert.K.Ref.run_main (F := Ideal) m' g')⟩

/-- All the claims. -/
theorem claim : Cert.Claim := ⟨Cert.Kernel.Gen.facts, Cert.KernelIdeal.Gen.facts, Cert.ReferenceIdeal.Gen.facts,
  frame_kernel, frame_ideal, frame_reference, trivial, value⟩

end Cert.Proof

end
